-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_but_last [hPre_finite_but_last : Cert.Pre_finite_but_last.Facts] (m : (ℓ : Loc Cert.KernelIdeal.nD Cert.KernelIdeal.τ Cert.KernelIdeal.sig) → Buf (Elt Ideal) ℓ) : Prop :=
  ∀ c : Dev Cert.KernelIdeal.nD,
    (Cert.Pre_finite_but_last.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_but_last [hPre_finite_but_last : Cert.Pre_finite_but_last.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_but_last.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_but_last [hKernelIdeal : Cert.KernelIdeal.Facts] [hPre_finite_but_last : Cert.Pre_finite_but_last.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_but_last m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_but_last [hReferenceIdeal : Cert.ReferenceIdeal.Facts] [hPre_finite_but_last : Cert.Pre_finite_but_last.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_but_last m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_but_last [hKernelIdeal : Cert.KernelIdeal.Facts] [hReferenceIdeal : Cert.ReferenceIdeal.Facts] [hPre_finite_but_last : Cert.Pre_finite_but_last.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_but_last m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_but_last : Cert.Pre_finite_but_last.Facts),
    quiescent_Kernel (hKernel := hKernel)
    ∧ quiescent_KernelIdeal (hKernelIdeal := hKernelIdeal)
    ∧ quiescent_KernelIdeal_pre_finite_but_last (hKernelIdeal := hKernelIdeal) (hPre_finite_but_last := hPre_finite_but_last)
    ∧ quiescent_ReferenceIdeal (hReferenceIdeal := hReferenceIdeal)
    ∧ quiescent_ReferenceIdeal_pre_finite_but_last (hReferenceIdeal := hReferenceIdeal) (hPre_finite_but_last := hPre_finite_but_last)
    ∧ preserves_Kernel_KernelIdeal
    ∧ algebraic_KernelIdeal_ReferenceIdeal_pre_finite_but_last (hKernelIdeal := hKernelIdeal) (hReferenceIdeal := hReferenceIdeal) (hPre_finite_but_last := hPre_finite_but_last)
-- ==== Pre_finite_but_last.lean ====
abbrev S2048x128 : Shape := ⟨2, ![2048, 128]⟩
abbrev S3x2048x2048 : Shape := ⟨3, ![3, 2048, 2048]⟩
abbrev S32x4 : Shape := ⟨2, ![32, 4]⟩
abbrev S32 : Shape := ⟨1, ![32]⟩
abbrev S32x128 : Shape := ⟨2, ![32, 128]⟩
abbrev S512x4096 : Shape := ⟨2, ![512, 4096]⟩
abbrev S512 : Shape := ⟨1, ![512]⟩
abbrev S10x512 : Shape := ⟨2, ![10, 512]⟩
abbrev S10 : Shape := ⟨1, ![10]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S3x2048x2048 : S_.BroadcastsInDim S3x2048x2048 (![] : Fin 0 → Fin S3x2048x2048.rank)
  reducesTo_S3x2048x2048_S_d0_1_2 : S3x2048x2048.ReducesTo [0, 1, 2] S_
  bcast_S_S32x4 : S_.BroadcastsInDim S32x4 (![] : Fin 0 → Fin S32x4.rank)
  reducesTo_S32x4_S_d0_1 : S32x4.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S512x4096 : S_.BroadcastsInDim S512x4096 (![] : Fin 0 → Fin S512x4096.rank)
  reducesTo_S512x4096_S_d0_1 : S512x4096.ReducesTo [0, 1] S_
  bcast_S_S512 : S_.BroadcastsInDim S512 (![] : Fin 0 → Fin S512.rank)
  reducesTo_S512_S_d0 : S512.ReducesTo [0] S_
  bcast_S_S10x512 : S_.BroadcastsInDim S10x512 (![] : Fin 0 → Fin S10x512.rank)
  reducesTo_S10x512_S_d0_1 : S10x512.ReducesTo [0, 1] S_

variable [Facts]

def fn_part2 {F : FTy → Type} [FloatOps F] (main_arg7 : FVec F S512 .f32) (main_arg8 : FVec F S10x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S10x512 .f32 := Host.absf main_arg8
  let main_cst_14 : FVec F S_ .f32 := constant S_ .f32 0x7F800000#32
  let main_v40 : FVec F S10x512 .f32 := broadcastInDim S10x512 ![] bcast_S_S10x512 main_cst_14
  let main_v41 : IVec S10x512 1 := cmpf .olt main_v39 main_v40
  let main_c_15 : IVec S_ 1 := constantI S_ 1 1#1
  let main_v42 : IVec S_ 1 := (fun x v => Host.reduce IntOp.andi x v reducesTo_S10x512_S_d0_1 h_S_) main_v41 main_c_15
  let main_v43 : IVec S_ 1 := andi main_v38 main_v42
  main_v43

def fn_part1 {F : FTy → Type} [FloatOps F] (main_arg4 : FVec F S32x128 .f32) (main_arg5 : FVec F S32 .f32) (main_arg6 : FVec F S512x4096 .f32) (main_arg7 : FVec F S512 .f32) (main_arg8 : FVec F S10x512 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x128 .f32 := Host.absf main_arg4
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S512x4096 .f32 := Host.absf main_arg6
  let main_cst_10 : FVec F S_ .f32 := constant S_ .f32 0x7F800000#32
  let main_v30 : FVec F S512x4096 .f32 := broadcastInDim S512x4096 ![] bcast_S_S512x4096 main_cst_10
  let main_v31 : IVec S512x4096 1 := cmpf .olt main_v29 main_v30
  let main_c_11 : IVec S_ 1 := constantI S_ 1 1#1
  let main_v32 : IVec S_ 1 := (fun x v => Host.reduce IntOp.andi x v reducesTo_S512x4096_S_d0_1 h_S_) main_v31 main_c_11
  let main_v33 : IVec S_ 1 := andi main_v28 main_v32
  fn_part2 (F := F) main_arg7 main_arg8 main_v33

def fn {F : FTy → Type} [FloatOps F] (main_arg0 : FVec F S2048x128 .f32) (main_arg1 : FVec F S3x2048x2048 .f32) (main_arg2 : FVec F S32x4 .f32) (main_arg3 : FVec F S32 .f32) (main_arg4 : FVec F S32x128 .f32) (main_arg5 : FVec F S32 .f32) (main_arg6 : FVec F S512x4096 .f32) (main_arg7 : FVec F S512 .f32) (main_arg8 : FVec F S10x512 .f32) (main_arg9 : FVec F S10 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S3x2048x2048 .f32 := Host.absf main_arg1
  let main_cst_0 : FVec F S_ .f32 := constant S_ .f32 0x7F800000#32
  let main_v5 : FVec F S3x2048x2048 .f32 := broadcastInDim S3x2048x2048 ![] bcast_S_S3x2048x2048 main_cst_0
  let main_v6 : IVec S3x2048x2048 1 := cmpf .olt main_v4 main_v5
  let main_c_1 : IVec S_ 1 := constantI S_ 1 1#1
  let main_v7 : IVec S_ 1 := (fun x v => Host.reduce IntOp.andi x v reducesTo_S3x2048x2048_S_d0_1_2 h_S_) main_v6 main_c_1
  let main_v8 : IVec S_ 1 := andi main_v3 main_v7
  let main_v9 : FVec F S32x4 .f32 := Host.absf main_arg2
  let main_cst_2 : FVec F S_ .f32 := constant S_ .f32 0x7F800000#32
  let main_v10 : FVec F S32x4 .f32 := broadcastInDim S32x4 ![] bcast_S_S32x4 main_cst_2
  let main_v11 : IVec S32x4 1 := cmpf .olt main_v9 main_v10
  let main_c_3 : IVec S_ 1 := constantI S_ 1 1#1
  let main_v12 : IVec S_ 1 := (fun x v => Host.reduce IntOp.andi x v reducesTo_S32x4_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_v13 main_v16
-- ==== Kernel.lean ====
abbrev S2048x128 : Shape := ⟨2, ![2048, 128]⟩
abbrev S3x2048x2048 : Shape := ⟨3, ![3, 2048, 2048]⟩
abbrev S32x4 : Shape := ⟨2, ![32, 4]⟩
abbrev S32 : Shape := ⟨1, ![32]⟩
abbrev S32x128 : Shape := ⟨2, ![32, 128]⟩
abbrev S512x4096 : Shape := ⟨2, ![512, 4096]⟩
abbrev S512 : Shape := ⟨1, ![512]⟩
abbrev S10x512 : Shape := ⟨2, ![10, 512]⟩
abbrev S10 : Shape := ⟨1, ![10]⟩
abbrev S128x128 : Shape := ⟨2, ![128, 128]⟩
abbrev S_ : Shape := ⟨0, ![]⟩
abbrev S1x128x128x1 : Shape := ⟨4, ![1, 128, 128, 1]⟩
abbrev S4x32 : Shape := ⟨2, ![4, 32]⟩
abbrev S4x1x1x32 : Shape := ⟨4, ![4, 1, 1, 32]⟩
abbrev S4x128x128x32 : Shape := ⟨4, ![4, 128, 128, 32]⟩
abbrev S1x32 : Shape := ⟨2, ![1, 32]⟩
abbrev S128x32 : Shape := ⟨2, ![128, 32]⟩
abbrev S4096 : Shape := ⟨1, ![4096]⟩
abbrev S1x4096 : Shape := ⟨2, ![1, 4096]⟩
abbrev S32x32x4 : Shape := ⟨3, ![32, 32, 4]⟩
abbrev S4x4 : Shape := ⟨2, ![4, 4]⟩
abbrev S1x4x1x4x1 : Shape := ⟨5, ![1, 4, 1, 4, 1]⟩
abbrev S4x32x32 : Shape := ⟨3, ![4, 32, 32]⟩
abbrev S4x1x32x1x32 : Shape := ⟨5, ![4, 1, 32, 1, 32]⟩
abbrev S4x4x32x4x32 : Shape := ⟨5, ![4, 4, 32, 4, 32]⟩
abbrev S512x128 : Shape := ⟨2, ![512, 128]⟩
abbrev S128 : Shape := ⟨1, ![128]⟩
abbrev S1x128 : Shape := ⟨2, ![1, 128]⟩
abbrev S10x4096 : Shape := ⟨2, ![10, 4096]⟩
abbrev S4096x10 : Shape := ⟨2, ![4096, 10]⟩
abbrev S1x10 : Shape := ⟨2, ![1, 10]⟩
abbrev S1x1x1x10 : Shape := ⟨4, ![1, 1, 1, 10]⟩
abbrev S8x1x1x10 : Shape := ⟨4, ![8, 1, 1, 10]⟩
abbrev S8x10 : Shape := ⟨2, ![8, 10]⟩
abbrev S1x2048x2048 : Shape := ⟨3, ![1, 2048, 2048]⟩
abbrev S2048x2048 : Shape := ⟨2, ![2048, 2048]⟩
abbrev S2048x4096 : Shape := ⟨2, ![2048, 4096]⟩
abbrev S256x4096 : Shape := ⟨2, ![256, 4096]⟩
abbrev S2048x512 : Shape := ⟨2, ![2048, 512]⟩
abbrev S256x512 : Shape := ⟨2, ![256, 512]⟩
abbrev S2048x10 : Shape := ⟨2, ![2048, 10]⟩
abbrev S256x2048 : Shape := ⟨2, ![256, 2048]⟩
abbrev S256x10 : Shape := ⟨2, ![256, 10]⟩
abbrev S256x128 : Shape := ⟨2, ![256, 128]⟩

abbrev nBuf : Space → Nat
  | .hbm => 66
  | .vmem => 19
  | .smem => 0
  | _ => 0

abbrev bufTy : (tb : Table) → Fin (tcTables nBuf tb) → BufTy
  | .hbm, ⟨0, _⟩ => ⟨S2048x128, .f32⟩
  | .hbm, ⟨1, _⟩ => ⟨S3x2048x2048, .f32⟩
  | .hbm, ⟨2, _⟩ => ⟨S32x4, .f32⟩
  | .hbm, ⟨3, _⟩ => ⟨S32, .f32⟩
  | .hbm, ⟨4, _⟩ => ⟨S32x128, .f32⟩
  | .hbm, ⟨5, _⟩ => ⟨S32, .f32⟩
  | .hbm, ⟨6, _⟩ => ⟨S512x4096, .f32⟩
  | .hbm, ⟨7, _⟩ => ⟨S512, .f32⟩
  | .hbm, ⟨8, _⟩ => ⟨S10x512, .f32⟩
  | .hbm, ⟨9, _⟩ => ⟨S10, .f32⟩
  | .hbm, ⟨10, _⟩ => ⟨S128x128, .i32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S128x128, .bf16⟩
  | .hbm, ⟨17, _⟩ => ⟨S1x128x128x1, .bf16⟩
  | .hbm, ⟨18, _⟩ => ⟨S32x4, .bf16⟩
  | .hbm, ⟨19, _⟩ => ⟨S4x32, .bf16⟩
  | .hbm, ⟨20, _⟩ => ⟨S4x1x1x32, .bf16⟩
  | .hbm, ⟨21, _⟩ => ⟨S4x128x128x32, .bf16⟩
  | .hbm, ⟨22, _⟩ => ⟨S4x128x128x32, .bf16⟩
  | .hbm, ⟨23, _⟩ => ⟨S4x128x128x32, .bf16⟩
  | .hbm, ⟨24, _⟩ => ⟨S512x4096, .bf16⟩
  | .hbm, ⟨25, _⟩ => ⟨S1x32, .f32⟩
  | .hbm, ⟨26, _⟩ => ⟨S128x32, .f32⟩
  | .hbm, ⟨27, _⟩ => ⟨S4096, .f32⟩
  | .hbm, ⟨28, _⟩ => ⟨S1x4096, .f32⟩
  | .hbm, ⟨29, _⟩ => ⟨S1x4096, .bf16⟩
  | .hbm, ⟨30, _⟩ => ⟨S32x128, .bf16⟩
  | .hbm, ⟨31, _⟩ => ⟨S32x32x4, .bf16⟩
  | .hbm, ⟨32, _⟩ => ⟨S4x4, .i32⟩
  | .hbm, ⟨33, _⟩ => ⟨S4x4, .i32⟩
  | .hbm, ⟨34, _⟩ => ⟨S_, .i32⟩
  | .hbm, ⟨35, _⟩ => ⟨S4x4, .i32⟩
  | .hbm, ⟨36, _⟩ => ⟨S4x4, .i32⟩
  | .hbm, ⟨37, _⟩ => ⟨S4x4, .i1⟩
  | .hbm, ⟨38, _⟩ => ⟨S4x4, .bf16⟩
  | .hbm, ⟨39, _⟩ => ⟨S1x4x1x4x1, .bf16⟩
  | .hbm, ⟨40, _⟩ => ⟨S4x32x32, .bf16⟩
  | .hbm, ⟨41, _⟩ => ⟨S4x1x32x1x32, .bf16⟩
  | .hbm, ⟨42, _⟩ => ⟨S4x4x32x4x32, .bf16⟩
  | .hbm, ⟨43, _⟩ => ⟨S4x4x32x4x32, .bf16⟩
  | .hbm, ⟨44, _⟩ => ⟨S4x4x32x4x32, .bf16⟩
  | .hbm, ⟨45, _⟩ => ⟨S512x128, .bf16⟩
  | .hbm, ⟨46, _⟩ => ⟨S1x32, .f32⟩
  | .hbm, ⟨47, _⟩ => ⟨S4x32, .f32⟩
  | .hbm, ⟨48, _⟩ => ⟨S128, .f32⟩
  | .hbm, ⟨49, _⟩ => ⟨S1x128, .f32⟩
  | .hbm, ⟨50, _⟩ => ⟨S1x128, .bf16⟩
  | .hbm, ⟨51, _⟩ => ⟨S10x4096, .f32⟩
  | .hbm, ⟨52, _⟩ => ⟨S4096x10, .f32⟩
  | .hbm, ⟨53, _⟩ => ⟨S4096x10, .bf16⟩
  | .hbm, ⟨54, _⟩ => ⟨S10, .f32⟩
  | .hbm, ⟨55, _⟩ => ⟨S10, .f32⟩
  | .hbm, ⟨56, _⟩ => ⟨S1x10, .f32⟩
  | .hbm, ⟨57, _⟩ => ⟨S1x1x1x10, .f32⟩
  | .hbm, ⟨58, _⟩ => ⟨S8x1x1x10, .f32⟩
  | .hbm, ⟨59, _⟩ => ⟨S8x10, .f32⟩
  | .hbm, ⟨60, _⟩ => ⟨S1x2048x2048, .f32⟩
  | .hbm, ⟨61, _⟩ => ⟨S2048x2048, .f32⟩
  | .hbm, ⟨62, _⟩ => ⟨S2048x4096, .bf16⟩
  | .hbm, ⟨63, _⟩ => ⟨S1x2048x2048, .f32⟩
  | .hbm, ⟨64, _⟩ => ⟨S2048x2048, .f32⟩
  | .hbm, ⟨65, _⟩ => ⟨S2048x10, .f32⟩
  | .local _ .vmem, ⟨0, _⟩ => ⟨S2048x2048, .f32⟩
  | .local _ .vmem, ⟨1, _⟩ => ⟨S2048x128, .f32⟩
  | .local _ .vmem, ⟨2, _⟩ => ⟨S512x4096, .bf16⟩
  | .local _ .vmem, ⟨3, _⟩ => ⟨S1x4096, .bf16⟩
  | .local _ .vmem, ⟨4, _⟩ => ⟨S256x4096, .bf16⟩
  | .local _ .vmem, ⟨5, _⟩ => ⟨S256x4096, .bf16⟩
  | .local _ .vmem, ⟨6, _⟩ => ⟨S2048x512, .bf16⟩
  | .local _ .vmem, ⟨7, _⟩ => ⟨S256x2048, .f32⟩
  | .local _ .vmem, ⟨8, _⟩ => ⟨S256x2048, .f32⟩
  | .local _ .vmem, ⟨9, _⟩ => ⟨S2048x4096, .bf16⟩
  | .local _ .vmem, ⟨10, _⟩ => ⟨S512x128, .bf16⟩
  | .local _ .vmem, ⟨11, _⟩ => ⟨S1x128, .bf16⟩
  | .local _ .vmem, ⟨12, _⟩ => ⟨S4096x10, .bf16⟩
  | .local _ .vmem, ⟨13, _⟩ => ⟨S8x10, .f32⟩
  | .local _ .vmem, ⟨14, _⟩ => ⟨S256x10, .f32⟩
  | .local _ .vmem, ⟨15, _⟩ => ⟨S256x10, .f32⟩
  | .local _ .vmem, ⟨16, _⟩ => ⟨S2048x4096, .bf16⟩
  | .local _ .vmem, ⟨17, _⟩ => ⟨S2048x4096, .bf16⟩
  | .local _ .vmem, ⟨18, _⟩ => ⟨S256x4096, .bf16⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_mult1 (i : grid0.Coords) : BitVec 32 :=
  let arg0 : BitVec 32 := BitVec.ofNat 32 (i 0).val
  let c1_i32 : BitVec 32 := 1#32
  let v6 : BitVec 32 := Scalar.subi arg0 c1_i32
  let c256_i32 : BitVec 32 := 256#32
  let v7 : BitVec 32 := Scalar.muli v6 c256_i32
  v7
def k0_off1 (i : grid0.Coords) : Fin 2 → Nat :=
  let arg0 : BitVec 32 := BitVec.ofNat 32 (i 0).val
  let c1_i32 : BitVec 32 := 1#32
  let v6 : BitVec 32 := Scalar.subi arg0 c1_i32
  let c256_i32 : BitVec 32 := 256#32
  let v7 : BitVec 32 := Scalar.muli v6 c256_i32
  let v8 : BitVec 32 := v7
  let v9 : Index := Scalar.indexCast v8
  let c0 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![3, 8], ![false, false]⟩

def k1_mult1 (i : grid1.Coords) : BitVec 32 :=
  let arg1 : BitVec 32 := BitVec.ofNat 32 (i 1).val
  let c256_i32 : BitVec 32 := 256#32
  let v0 : BitVec 32 := Scalar.muli arg1 c256_i32
  v0
def k1_cond1 (i : grid1.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_1 : BitVec 32 := 0#32
  let v7 : BitVec 1 := Scalar.cmpi .ne v6 c0_i32_1
  v7

def k1_off1 (i : grid1.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v18 : Index := Scalar.indexCast v1
  let c0_6 : Index := 0#32
  ![v18.toNat, 0]
def k1_cond2 (i : grid1.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_2 : BitVec 32 := 0#32
  let v10 : BitVec 1 := Scalar.cmpi .ne v9 c0_i32_2
  v10

def k1_off2 (i : grid1.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v16 : Index := Scalar.indexCast v1
  let c0_6 : Index := 0#32
  ![v16.toNat, 0]
def k1_cond3 (i : grid1.Coords) : BitVec 1 :=
  let arg0 : BitVec 32 := BitVec.ofNat 32 (i 0).val
  let c2_i32 : BitVec 32 := 2#32
  let v11 : BitVec 1 := Scalar.cmpi .eq arg0 c2_i32
  let v12 : BitVec 32 := Scalar.extui v11
  let c0_i32_3 : BitVec 32 := 0#32
  let v13 : BitVec 1 := Scalar.cmpi .ne v12 c0_i32_3
  v13

def k1_off3 (i : grid1.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v16 : Index := Scalar.indexCast v1
  let c0_6 : Index := 0#32
  ![v16.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2048x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4096x10 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S256x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]
-- ==== ReferenceIdeal.lean ====
abbrev S2048x128 : Shape := ⟨2, ![2048, 128]⟩
abbrev S3x2048x2048 : Shape := ⟨3, ![3, 2048, 2048]⟩
abbrev S32x4 : Shape := ⟨2, ![32, 4]⟩
abbrev S32 : Shape := ⟨1, ![32]⟩
abbrev S32x128 : Shape := ⟨2, ![32, 128]⟩
abbrev S512x4096 : Shape := ⟨2, ![512, 4096]⟩
abbrev S512 : Shape := ⟨1, ![512]⟩
abbrev S10x512 : Shape := ⟨2, ![10, 512]⟩
abbrev S10 : Shape := ⟨1, ![10]⟩
abbrev S2048x128x1 : Shape := ⟨3, ![2048, 128, 1]⟩
abbrev S1x2048x2048 : Shape := ⟨3, ![1, 2048, 2048]⟩
abbrev S2048x2048 : Shape := ⟨2, ![2048, 2048]⟩
abbrev S2048x1x128 : Shape := ⟨3, ![2048, 1, 128]⟩
abbrev S_ : Shape := ⟨0, ![]⟩
abbrev S1x2048x128 : Shape := ⟨3, ![1, 2048, 128]⟩
abbrev S4x2048x128 : Shape := ⟨3, ![4, 2048, 128]⟩
abbrev S4x2048x1x128 : Shape := ⟨4, ![4, 2048, 1, 128]⟩
abbrev S2048x128x1x4 : Shape := ⟨4, ![2048, 128, 1, 4]⟩
abbrev S262144x4 : Shape := ⟨2, ![262144, 4]⟩
abbrev S4x32 : Shape := ⟨2, ![4, 32]⟩
abbrev S262144x32 : Shape := ⟨2, ![262144, 32]⟩
abbrev S1x32 : Shape := ⟨2, ![1, 32]⟩
abbrev S2048x128x32 : Shape := ⟨3, ![2048, 128, 32]⟩
abbrev S2048x32x128 : Shape := ⟨3, ![2048, 32, 128]⟩
abbrev S2048x4096 : Shape := ⟨2, ![2048, 4096]⟩
abbrev S1x2048x4096 : Shape := ⟨3, ![1, 2048, 4096]⟩
abbrev S4x2048x4096 : Shape := ⟨3, ![4, 2048, 4096]⟩
abbrev S4x2048x32x128 : Shape := ⟨4, ![4, 2048, 32, 128]⟩
abbrev S2048x128x32x4 : Shape := ⟨4, ![2048, 128, 32, 4]⟩
abbrev S262144x128 : Shape := ⟨2, ![262144, 128]⟩
abbrev S128x32 : Shape := ⟨2, ![128, 32]⟩
abbrev S4096x512 : Shape := ⟨2, ![4096, 512]⟩
abbrev S2048x512 : Shape := ⟨2, ![2048, 512]⟩
abbrev S1x512 : Shape := ⟨2, ![1, 512]⟩
abbrev S512x10 : Shape := ⟨2, ![512, 10]⟩
abbrev S2048x10 : Shape := ⟨2, ![2048, 10]⟩
abbrev S1x10 : Shape := ⟨2, ![1, 10]⟩

abbrev nBuf : Space → Nat
  | .hbm => 86
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S3x2048x2048, .f32⟩
  | .hbm, ⟨2, _⟩ => ⟨S32x4, .f32⟩
  | .hbm, ⟨3, _⟩ => ⟨S32, .f32⟩
  | .hbm, ⟨4, _⟩ => ⟨S32x128, .f32⟩
  | .hbm, ⟨5, _⟩ => ⟨S32, .f32⟩
  | .hbm, ⟨6, _⟩ => ⟨S512x4096, .f32⟩
  | .hbm, ⟨7, _⟩ => ⟨S512, .f32⟩
  | .hbm, ⟨8, _⟩ => ⟨S10x512, .f32⟩
  | .hbm, ⟨9, _⟩ => ⟨S10, .f32⟩
  | .hbm, ⟨10, _⟩ => ⟨S2048x128x1, .f32⟩
  | .hbm, ⟨11, _⟩ => ⟨S1x2048x2048, .f32⟩
  | .hbm, ⟨12, _⟩ => ⟨S2048x2048, .f32⟩
  | .hbm, ⟨13, _⟩ => ⟨S2048x1x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S_, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S1x2048x128, .f32⟩
  | .hbm, ⟨27, _⟩ => ⟨S1x2048x128, .f32⟩
  | .hbm, ⟨28, _⟩ => ⟨S1x2048x128, .f32⟩
  | .hbm, ⟨29, _⟩ => ⟨S1x2048x128, .f32⟩
  | .hbm, ⟨30, _⟩ => ⟨S4x2048x128, .f32⟩
  | .hbm, ⟨31, _⟩ => ⟨S4x2048x1x128, .f32⟩
  | .hbm, ⟨32, _⟩ => ⟨S2048x128x1x4, .f32⟩
  | .hbm, ⟨33, _⟩ => ⟨S262144x4, .f32⟩
  | .hbm, ⟨34, _⟩ => ⟨S4x32, .f32⟩
  | .hbm, ⟨35, _⟩ => ⟨S262144x32, .f32⟩
  | .hbm, ⟨36, _⟩ => ⟨S1x32, .f32⟩
  | .hbm, ⟨37, _⟩ => ⟨S262144x32, .f32⟩
  | .hbm, ⟨38, _⟩ => ⟨S262144x32, .f32⟩
  | .hbm, ⟨39, _⟩ => ⟨S2048x128x32, .f32⟩
  | .hbm, ⟨40, _⟩ => ⟨S_, .f32⟩
  | .hbm, ⟨41, _⟩ => ⟨S2048x128x32, .f32⟩
  | .hbm, ⟨42, _⟩ => ⟨S2048x128x32, .f32⟩
  | .hbm, ⟨43, _⟩ => ⟨S1x2048x2048, .f32⟩
  | .hbm, ⟨44, _⟩ => ⟨S2048x2048, .f32⟩
  | .hbm, ⟨45, _⟩ => ⟨S2048x32x128, .f32⟩
  | .hbm, ⟨46, _⟩ => ⟨S2048x4096, .f32⟩
  | .hbm, ⟨47, _⟩ => ⟨S2048x4096, .f32⟩
  | .hbm, ⟨48, _⟩ => ⟨S2048x4096, .f32⟩
  | .hbm, ⟨49, _⟩ => ⟨S_, .f32⟩
  | .hbm, ⟨50, _⟩ => ⟨S2048x4096, .f32⟩
  | .hbm, ⟨51, _⟩ => ⟨S2048x4096, .f32⟩
  | .hbm, ⟨52, _⟩ => ⟨S2048x4096, .f32⟩
  | .hbm, ⟨53, _⟩ => ⟨S2048x4096, .f32⟩
  | .hbm, ⟨54, _⟩ => ⟨S_, .f32⟩
  | .hbm, ⟨55, _⟩ => ⟨S2048x4096, .f32⟩
  | .hbm, ⟨56, _⟩ => ⟨S2048x4096, .f32⟩
  | .hbm, ⟨57, _⟩ => ⟨S2048x4096, .f32⟩
  | .hbm, ⟨58, _⟩ => ⟨S1x2048x4096, .f32⟩
  | .hbm, ⟨59, _⟩ => ⟨S1x2048x4096, .f32⟩
  | .hbm, ⟨60, _⟩ => ⟨S1x2048x4096, .f32⟩
  | .hbm, ⟨61, _⟩ => ⟨S1x2048x4096, .f32⟩
  | .hbm, ⟨62, _⟩ => ⟨S4x2048x4096, .f32⟩
  | .hbm, ⟨63, _⟩ => ⟨S4x2048x32x128, .f32⟩
  | .hbm, ⟨64, _⟩ => ⟨S2048x128x32x4, .f32⟩
  | .hbm, ⟨65, _⟩ => ⟨S262144x128, .f32⟩
  | .hbm, ⟨66, _⟩ => ⟨S128x32, .f32⟩
  | .hbm, ⟨67, _⟩ => ⟨S262144x32, .f32⟩
  | .hbm, ⟨68, _⟩ => ⟨S1x32, .f32⟩
  | .hbm, ⟨69, _⟩ => ⟨S262144x32, .f32⟩
  | .hbm, ⟨70, _⟩ => ⟨S262144x32, .f32⟩
  | .hbm, ⟨71, _⟩ => ⟨S2048x128x32, .f32⟩
  | .hbm, ⟨72, _⟩ => ⟨S_, .f32⟩
  | .hbm, ⟨73, _⟩ => ⟨S2048x128x32, .f32⟩
  | .hbm, ⟨74, _⟩ => ⟨S2048x128x32, .f32⟩
  | .hbm, ⟨75, _⟩ => ⟨S2048x4096, .f32⟩
  | .hbm, ⟨76, _⟩ => ⟨S4096x512, .f32⟩
  | .hbm, ⟨77, _⟩ => ⟨S2048x512, .f32⟩
  | .hbm, ⟨78, _⟩ => ⟨S1x512, .f32⟩
  | .hbm, ⟨79, _⟩ => ⟨S2048x512, .f32⟩
  | .hbm, ⟨80, _⟩ => ⟨S2048x512, .f32⟩
  | .hbm, ⟨81, _⟩ => ⟨S512x10, .f32⟩
  | .hbm, ⟨82, _⟩ => ⟨S2048x10, .f32⟩
  | .hbm, ⟨83, _⟩ => ⟨S1x10, .f32⟩
  | .hbm, ⟨84, _⟩ => ⟨S2048x10, .f32⟩
  | .hbm, ⟨85, _⟩ => ⟨S2048x10, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_call1_cst : Ref sig .tc := ⟨.hbm, 72, rfl⟩
abbrev main_call1_v0 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Proof.Sgcn.Feat.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Sgcn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first call's opening step: the first branch is entered exactly at grid point 0. -/
theorem first0 : ∀ t : Fin cfg0.N, (Scalar.cmpi .ne (Scalar.extui (Scalar.cmpi .eq (BitVec.ofNat 32 ((grid0.coords t) 0).val) 0#32)) 0#32) = 1#1 ↔ t.val = 0 :=
  (by decide +kernel : ∀ t : Fin grid0.N, (Scalar.cmpi .ne (Scalar.extui (Scalar.cmpi .eq (BitVec.ofNat 32 ((grid0.coords t) 0).val) 0#32)) 0#32) = 1#1 ↔ t.val = 0)

/-- The second branch of the first call is entered at every later point. -/
theorem later0 : ∀ t : Fin cfg0.N, k0_cond2 (grid0.coords t) = 1#1 ↔ t.val ≠ 0 :=
  (by decide +kernel : ∀ t : Fin grid0.N, k0_cond2 (grid0.coords t) = 1#1 ↔ t.val ≠ 0)

set_option maxHeartbeats 1000000 in
/-- The first call's body at its first point: the Chebyshev features of the whole input are left in the scratch
    memref, the output memref is handed back as it came. -/
theorem feat_first (c : Dev nD) (i : grid0.Coords) (arg1 : Memref sig .tc .vmem S2048x2048 .f32) (harg1 : arg1.IsWhole)
    (arg2 : Memref sig .tc .vmem S2048x128 .f32) (harg2 : arg2.IsWhole) (arg3 : Memref sig .tc .vmem S512x4096 .bf16) (harg3 : arg3.IsWhole)
    (arg4 : Memref sig .tc .vmem S1x4096 .bf16) (harg4 : arg4.IsWhole) (arg5 : Memref sig .tc .vmem S256x4096 .bf16) (harg5 : arg5.IsWhole)
    (arg6 : Memref sig .tc .vmem S2048x512 .bf16) (harg6 : arg6.IsWhole)
    (hc0 : (Scalar.cmpi .ne (Scalar.extui (Scalar.cmpi .eq (BitVec.ofNat 32 (i 0).val) 0#32)) 0#32) = 1#1) (hc1 : ¬ k0_cond2 i = 1#1)
    (x0 : Vec F S2048x2048 .f32) (x1 : Vec F S2048x128 .f32) (E : Set ℕ) (K : PUnit → sProp 𝕄) :
    iprop(owns (c : Thread nD τ) arg1 fullShare x0 ∗ owns (c : Thread nD τ) arg2 fullShare x1 ∗ (∃ d, owns (c : Thread nD τ) arg6 fullShare d)
        ∗ (iprop(owns (c : Thread nD τ) arg1 fullShare x0 ∗ owns (c : Thread nD τ) arg2 fullShare x1
            ∗ owns (c : Thread nD τ) arg6 fullShare (k0_pay1 x0 x1 x1)) -∗ K ⟨⟩))
      ⊢ wp frame (wpE (defs₀ (F := F)) Variants.none c none) E (cc0__s1_kernel i arg1 harg1 arg2 harg2 arg3 harg3 arg4 harg4 arg5 harg5 arg6 harg6) K := by
  simp only [cc0__s1_kernel_eq_skeleton]; unfold cc0__s1_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact HS
  ipureintro
  rw [View.read_writes_full, View.readAt_full, View.readAt_full, hf0, hf1]

set_option maxHeartbeats 1000000 in
/-- The first call's body at a later point: one block of the first layer's output, computed from the rows of the
    scratch memref that the point names. -/
theorem feat_later (c : Dev nD) (i : grid0.Coords) (arg1 : Memref sig .tc .vmem S2048x2048 .f32) (harg1 : arg1.IsWhole)
    (arg2 : Memref sig .tc .vmem S2048x128 .f32) (harg2 : arg2.IsWhole) (arg3 : Memref sig .tc .vmem S512x4096 .bf16) (harg3 : arg3.IsWhole)
    (arg4 : Memref sig .tc .vmem S1x4096 .bf16) (harg4 : arg4.IsWhole) (arg5 : Memref sig .tc .vmem S256x4096 .bf16) (harg5 : arg5.IsWhole)
    (arg6 : Memref sig .tc .vmem S2048x512 .bf16) (harg6 : arg6.IsWhole)
    (hc0 : ¬ (Scalar.cmpi .ne (Scalar.extui (Scalar.cmpi .eq (BitVec.ofNat 32 (i 0).val) 0#32)) 0#32) = 1#1) (hc1 : k0_cond2 i = 1#1)
    (x2 : Vec F S512x4096 .bf16) (x3 : Vec F S1x4096 .bf16) (xs : Vec F S2048x512 .bf16) (E : Set ℕ) (K : PUnit → sProp 𝕄) :
    iprop(owns (c : Thread nD τ) arg3 fullShare x2 ∗ owns (c : Thread nD τ) arg4 fullShare x3 ∗ (∃ d, owns (c : Thread nD τ) arg5 fullShare d)
        ∗ owns (c : Thread nD τ) arg6 fullShare xs
        ∗ (iprop(owns (c : Thread nD τ) arg3 fullShare x2 ∗ owns (c : Thread nD τ) arg4 fullShare x3
            ∗ owns (c : Thread nD τ) arg5 fullShare (k0_pay2 (View.ld xs (Rect.unit (s := S2048x512) (k0_off1 i) S256x512.size (k0_off1_inb i hc1))) x2 x3)
            ∗ owns (c : Thread nD τ) arg6 fullShare xs) -∗ K ⟨⟩))
      ⊢ wp frame (wpE (defs₀ (F := F)) Variants.none c none) E (cc0__s1_kernel i arg1 harg1 arg2 harg2 arg3 harg3 arg4 harg4 arg5 harg5 arg6 harg6) K := by
  simp only [cc0__s1_kernel_eq_skeleton]; unfold cc0__s1_kernel_skel
  unfold owns
  iintro ⟨⟨%f2, %hf2, H2⟩, ⟨%f3, %hf3, H3⟩, ⟨%d4, %f4, -, H4⟩, ⟨%fs, %hfs, HS⟩, Hk⟩
  obtain rfl := harg3.eq_unread hf2; obtain rfl := harg4.eq_unread hf3; obtain rfl := harg6.eq_unread hfs
  sl_exec (disch := first | sl_exact hc0 | sl_exact hc1)
  sl_step
  iapply Hk
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    rw [View.read_writes_full, View.readAt_full, View.readAt_full, View.readAt_eq_ld, hf2, hf3, hfs]
  iexists _; isplitr; · ipureintro; exact harg6.read_unread _
  iexact HS

end Cert.KernelIdeal.Sgcn

end
-- ==== Proof.Sgcn.Rows.lean ====
module

public import proofs.«01_k».proof.Proof.Sgcn.Feat
public import Idealize.ShloMosaic.Lib.ValueIdxCore

@[expose] public section

set_option maxRecDepth 16384

noncomputable section

namespace Cert.KernelIdeal.Sgcn

open Cert.KernelIdeal.Gen
open Idealize.ShloMosaic Idealize.ShloMosaic.TcCoe Idealize.ShloMosaic.ValueIdx

/-- Of a matrix of 2048 rows, the 256 rows of block `b`. -/
def slab {α : Type} {n : ℕ} (X : (⟨2, ![2048, n]⟩ : Shape).Idx → α) (b : Fin 8) : (⟨2, ![256, n]⟩ : Shape).Idx → α :=
  fun y => X (ix2 ⟨256 * b.val + (y 0).val, by have h1 := b.isLt; have h2 : (y 0).val < 256 := (y 0).isLt; omega⟩ (y 1))

/-- The block a row of a 2048-row matrix lies in. -/
def rowBlock {n : ℕ} (j : (⟨2, ![2048, n]⟩ : Shape).Idx) : Fin 8 :=
  ⟨(j 0).val / 256, by have h : (j 0).val < 2048 := (j 0).isLt; omega⟩

/-- The place of an entry of a 2048-row matrix inside its block of 256 rows. -/
def rowPlace {n : ℕ} (j : (⟨2, ![2048, n]⟩ : Shape).Idx) : (⟨2, ![256, n]⟩ : Shape).Idx :=
  ix2 ⟨(j 0).val % 256, Nat.mod_lt _ (by decide)⟩ (j 1)

/-- The matrix whose blocks of 256 rows are the given ones. -/
def stacked {α : Type} {n : ℕ} (B : Fin 8 → (⟨2, ![256, n]⟩ : Shape).Idx → α) : (⟨2, ![2048, n]⟩ : Shape).Idx → α :=
  fun j => B (rowBlock j) (rowPlace j)

/-- An entry of the stacked matrix, given by its block and its place. -/
theorem stacked_at {α : Type} {n : ℕ} (B : Fin 8 → (⟨2, ![256, n]⟩ : Shape).Idx → α) (j : (⟨2, ![2048, n]⟩ : Shape).Idx)
    (b : Fin 8) (y : (⟨2, ![256, n]⟩ : Shape).Idx) (h0 : (j 0).val = 256 * b.val + (y 0).val) (h1 : (j 1).val = (y 1).val) :
    stacked B j = B b y := by
  have hy : (y 0).val < 256 := (y 0).isLt
  have eb : rowBlock j = b := Fin.ext (by show (j 0).val / 256 = b.val; omega)
  have ey : rowPlace j = y := by
    rw [eq_ix2 y]; unfold rowPlace
    congr 1
    · exact Fin.ext (by show (j 0).val % 256 = (y 0).val; omega)
    · exact Fin.ext h1
  unfold stacked; rw [eb, ey]

/-- Taking a block of a stacked matrix gives that block. -/
theorem slab_stacked {α : Type} {n : ℕ} (B : Fin 8 → (⟨2, ![256, n]⟩ : Shape).Idx → α) (b : Fin 8) : slab (stacked B) b = B b :=
  funext fun y => stacked_at B _ b y rfl rfl

/-- An entry of a block, by its row in the whole matrix. -/
theorem slab_at {α : Type} {n : ℕ} (X : (⟨2, ![2048, n]⟩ : Shape).Idx → α) (b : Fin 8) (y : (⟨2, ![256, n]⟩ : Shape).Idx)
    (j : (⟨2, ![2048, n]⟩ : Shape).Idx) (h0 : (j 0).val = 256 * b.val + (y 0).val) (h1 : (j 1).val = (y 1).val) :
    X j = slab X b y := by
  unfold slab
  congr 1
  rw [eq_ix2 j]
  congr 1
  · exact Fin.ext h0
  · exact Fin.ext h1

/-- Loading 256 rows from the start of a block gives the block. -/
theorem ld_slab {Val : EltTy → Type} {e : EltTy} {n : ℕ} (X : (⟨2, ![2048, n]⟩ : Shape).Idx → Val e) (b : Fin 8) (off : Fin 2 → ℕ)
    (hin : ∀ a, off a + (![256, n] : Fin 2 → ℕ) a ≤ (![2048, n] : Fin 2 → ℕ) a) (ho : off = ![256 * b.val, 0]) :
    View.ld X (Rect.unit (s := ⟨2, ![2048, n]⟩) off ![256, n] hin) = slab X b := by
  subst ho
  funext y
  refine slab_at X b y _ ?_ ?_
  · show 256 * b.val + 1 * (y 0).val = 256 * b.val + (y 0).val; omega
  · show 0 + 1 * (y 1).val = (y 1).val; omega

/-- Loading a whole matrix gives it. -/
theorem ld_whole {Val : EltTy → Type} {e : EltTy} {n m : ℕ} (X : (⟨2, ![n, m]⟩ : Shape).Idx → Val e)
    (hin : ∀ a, (![0, 0] : Fin 2 → ℕ) a + (![n, m] : Fin 2 → ℕ) a ≤ (![n, m] : Fin 2 → ℕ) a) :
    View.ld X (Rect.unit (s := ⟨2, ![n, m]⟩) ![0, 0] ![n, m] hin) = X := by
  funext y
  show X _ = X y
  congr 1
  funext a
  apply Fin.ext
  match a with
  | ⟨0, _⟩ => show 0 + 1 * (y 0).val = (y 0).val; omega
  | ⟨1, _⟩ => show 0 + 1 * (y 1).val = (y 1).val; omega

end Cert.KernelIdeal.Sgcn

end
-- ==== Proof.Sgcn.First.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.WordCmp
public import Idealize.ShloMosaic.Lib.VecWindow
public import proofs.«01_k».proof.Proof.Sgcn.Rows

@[expose] public section

set_option maxRecDepth 16384

noncomputable section

namespace Cert.KernelIdeal.Sgcn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the first call at point `t`, read from its array as the call finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four inputs of the first call sit at block zero at every point. -/
theorem still0 : ∀ t : Fin cfg0.N, (∀ a, win0_0.index t a = 0) ∧ (∀ a, win0_1.index t a = 0) ∧ (∀ a, win0_2.index t a = 0) ∧ (∀ a, win0_3.index t a = 0) :=
  (by decide +kernel : ∀ t : Fin grid0.N, _)

/-- The Laplacian block of the first call is the whole array. -/
theorem blkA0 (c : Dev nD) (t : Fin cfg0.N) : blkA V c 0 t = V c main_v49 := by
  funext j
  show V c main_v49 (((cfg0.win 0).blk t).view.emb j) = V c main_v49 j
  congr 1; funext a; exact Fin.ext (Pipeline.Window.rect_emb_val_of_index_zero win0_0 t a ((still0 t).1 a) j)
/-- The input block of the first call is the whole array. -/
theorem blkA1 (c : Dev nD) (t : Fin cfg0.N) : blkA V c 1 t = V c main_arg0 := by
  funext j
  show V c main_arg0 (((cfg0.win 1).blk t).view.emb j) = V c main_arg0 j
  congr 1; funext a; exact Fin.ext (Pipeline.Window.rect_emb_val_of_index_zero win0_1 t a ((still0 t).2.1 a) j)
/-- The weight block of the first call is the whole array. -/
theorem blkA2 (c : Dev nD) (t : Fin cfg0.N) : blkA V c 2 t = V c main_v13 := by
  funext j
  show V c main_v13 (((cfg0.win 2).blk t).view.emb j) = V c main_v13 j
  congr 1; funext a; exact Fin.ext (Pipeline.Window.rect_emb_val_of_index_zero win0_2 t a ((still0 t).2.2.1 a) j)
/-- The bias block of the first call is the whole array. -/
theorem blkA3 (c : Dev nD) (t : Fin cfg0.N) : blkA V c 3 t = V c main_v18 := by
  funext j
  show V c main_v18 (((cfg0.win 3).blk t).view.emb j) = V c main_v18 j
  congr 1; funext a; exact Fin.ext (Pipeline.Window.rect_emb_val_of_index_zero win0_3 t a ((still0 t).2.2.2 a) j)

/-- The Chebyshev features the first call leaves in its scratch buffer. -/
def cheb (c : Dev nD) : Vec F S2048x512 .bf16 := k0_pay1 (V c main_v49) (V c main_arg0) (V c main_arg0)

/-- Block `b` of the first layer's output. -/
def layer1 (c : Dev nD) (b : Fin 8) : Vec F S256x4096 .bf16 := k0_pay2 (slab (cheb V c) b) (V c main_v13) (V c main_v18)

/-- The block a later point of the first call writes. -/
def turn0 (t : Fin cfg0.N) : Fin 8 := ⟨t.val - 1, by have := lt_of_lt_of_eq t.isLt (show cfg0.N = 9 from N_0); omega⟩

/-- What the scratch buffer of the first call holds before point `n`: anything at first, the features from then on. -/
def held0 (c : Dev nD) (n : ℕ) : sProp 𝕄 :=
  match n with
  | 0 => iprop(∃ d, owns (c : Thread nD τ) (Memref.whole cc0_scratch0) fullShare d)
  | _ + 1 => owns (c : Thread nD τ) (Memref.whole cc0_scratch0) fullShare (cheb V c)

/-- The buffers of the second call, which the first call leaves alone. -/
def beside0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The invariant of the first call before point `n`. -/
def inv0 (c : Dev nD) (n : ℕ) : sProp 𝕄 := iprop((held0 V c n ∗ beside0 c) ∗ ∃ r, prngReg c r)

/-- The scoped buffers outside the first call's windows are its scratch buffer and the second call's buffers. -/
theorem rest0 (c : Dev nD) : (Pipeline.scopedRest spec0 c : sProp 𝕄)
    = iprop((∃ d, owns (c : Thread nD τ) (Memref.whole cc0_scratch0) fullShare d) ∗ beside0 (F := F) c) := by
  rw [scopedRest0_eq]; unfold beside0; simp only [owns_whole]; try rfl

/-- The proof data of the first call: inputs stay, point `t` leaves block `t − 1` of the first layer. -/
def feed0 (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => layer1 V c (turn0 t)
  Φ t := inv0 V c t.val
  q _ := fullShare
  owed _ := 0

/-- The feed keeps every array of the launch as it was on entry. -/
theorem feed0_A (c : Dev nD) (w : Fin cfg0.W) : (feed0 V c).A w = V c (Pipeline.arrRef spec0 w) := by dsimp only [feed0]
/-- After step `t` window 0 holds its own block of the array it reads. -/
theorem feed0_0 (c : Dev nD) (t : Fin cfg0.N) : (feed0 V c).after 0 t = blkA V c 0 t := by dsimp only [feed0]
/-- After step `t` window 1 holds its own block of the array it reads. -/
theorem feed0_1 (c : Dev nD) (t : Fin cfg0.N) : (feed0 V c).after 1 t = blkA V c 1 t := by dsimp only [feed0]
/-- After step `t` window 2 holds its own block of the array it reads. -/
theorem feed0_2 (c : Dev nD) (t : Fin cfg0.N) : (feed0 V c).after 2 t = blkA V c 2 t := by dsimp only [feed0]
/-- After step `t` window 3 holds its own block of the array it reads. -/
theorem feed0_3 (c : Dev nD) (t : Fin cfg0.N) : (feed0 V c).after 3 t = blkA V c 3 t := by dsimp only [feed0]
/-- After step `t` window 4, the written one, holds the block of the first layer that has been written by then. -/
theorem feed0_4 (c : Dev nD) (t : Fin cfg0.N) : (feed0 V c).after 4 t = layer1 V c (turn0 t) := by dsimp only [feed0]
/-- What the feed says of the scratch before step `t`. -/
theorem feed0_inv (c : Dev nD) (t : Fin (cfg0.N + 1)) : (feed0 V c).Φ t = inv0 V c t.val := by dsimp only [feed0]

/-- At every point the body finds its four inputs at their blocks. -/
theorem found0 (c : Dev nD) (t : Fin cfg0.N) : (∀ d, (feed0 V c).before 0 t d = blkA V c 0 t) ∧ (∀ d, (feed0 V c).before 1 t d = blkA V c 1 t)
    ∧ (∀ d, (feed0 V c).before 2 t d = blkA V c 2 t) ∧ (∀ d, (feed0 V c).before 3 t d = blkA V c 3 t) := by
  refine ⟨fun d => ?_, fun d => ?_, fun d => ?_, fun d => ?_⟩
  · exact ((feed0 V c).before_in_eq_fetched 0 rfl (fun _ => rfl) (fun _ _ _ => rfl) (fun t => by rw [feed0_0]; unfold Dat.blockOf blkA; rw [feed0_A]) t d).trans
      (by unfold Dat.fetched Dat.blockOf blkA; rw [feed0_A]; rfl)
  · exact ((feed0 V c).before_in_eq_fetched 1 rfl (fun _ => rfl) (fun _ _ _ => rfl) (fun t => by rw [feed0_1]; unfold Dat.blockOf blkA; rw [feed0_A]) t d).trans
      (by unfold Dat.fetched Dat.blockOf blkA; rw [feed0_A]; rfl)
  · exact ((feed0 V c).before_in_eq_fetched 2 rfl (fun _ => rfl) (fun _ _ _ => rfl) (fun t => by rw [feed0_2]; unfold Dat.blockOf blkA; rw [feed0_A]) t d).trans
      (by unfold Dat.fetched Dat.blockOf blkA; rw [feed0_A]; rfl)
  · exact ((feed0 V c).before_in_eq_fetched 3 rfl (fun _ => rfl) (fun _ _ _ => rfl) (fun t => by rw [feed0_3]; unfold Dat.blockOf blkA; rw [feed0_A]) t d).trans
      (by unfold Dat.fetched Dat.blockOf blkA; rw [feed0_A]; rfl)

/-- The output window is idle at point 0 and live from then on; it is written back exactly at the live points. -/
theorem idle0_4 : ∀ t : Fin cfg0.N, (cfg0.idle 4 (cfg0.grid.coords t) = decide (t.val = 0)) ∧ ((cfg0.win 4).flush t = decide (t.val ≠ 0)) :=
  (by decide +kernel : ∀ t : Fin grid0.N, (idle0 4 (grid0.coords t) = decide (t.val = 0)) ∧ (win0_4.flush t = decide (t.val ≠ 0)))

/-- The rows a later point reads from the scratch buffer are those of its block. -/
theorem off0 : ∀ t : Fin cfg0.N, t.val ≠ 0 → k0_off1 (grid0.coords t) = ![256 * (t.val - 1), 0] :=
  (by decide +kernel : ∀ t : Fin grid0.N, t.val ≠ 0 → k0_off1 (grid0.coords t) = ![256 * (t.val - 1), 0])

/-- What the body is called with at point `t`. -/
def ask0 (c : Dev nD) (t : Fin cfg0.N) : sProp 𝕄 :=
  iprop(inv0 V c t.val ∗ (feed0 V c).owesAt () t.castSucc
    ∗ owns (c : Thread nD τ) (st0_0 t) fullShare (blkA V c 0 t)
    ∗ owns (c : Thread nD τ) (st0_1 t) fullShare (blkA V c 1 t)
    ∗ owns (c : Thread nD τ) (st0_2 t) fullShare (blkA V c 2 t)
    ∗ owns (c : Thread nD τ) (st0_3 t) fullShare (blkA V c 3 t)
    ∗ (∃ d, owns (c : Thread nD τ) (st0_4 t) fullShare ((feed0 V c).before 4 t d)))

/-- What it gives back. -/
def give0 (c : Dev nD) (t : Fin cfg0.N) : sProp 𝕄 :=
  iprop(inv0 V c (t.val + 1) ∗ (feed0 V c).owesAt () t.succ
    ∗ owns (c : Thread nD τ) (st0_0 t) fullShare (blkA V c 0 t)
    ∗ owns (c : Thread nD τ) (st0_1 t) fullShare (blkA V c 1 t)
    ∗ owns (c : Thread nD τ) (st0_2 t) fullShare (blkA V c 2 t)
    ∗ owns (c : Thread nD τ) (st0_3 t) fullShare (blkA V c 3 t)
    ∗ (feed0 V c).leavesExact 4 t)

set_option maxHeartbeats 1000000 in
/-- The body of the first call at any point. -/
theorem point0 (c : Dev nD) (t : Fin cfg0.N) :
    ask0 V c t ⊢ wp frame (wpE (defs₀ (F := F)) Variants.none c none) Set.univ (bodyAt0 t) (fun _ => give0 V c t) := by
  unfold ask0 give0 bodyAt0
  rw [show (feed0 V c).owesAt () t.succ = (feed0 V c).owesAt () t.castSucc from rfl]
  by_cases h0 : t.val = 0
  · have hidle := (idle0_4 t).1.trans (decide_eq_true h0)
    have hflush := (idle0_4 t).2.trans (decide_eq_false (not_not.mpr h0))
    rw [(feed0 V c).leavesExact_idle 4 t hidle hflush, h0]
    unfold inv0 held0
    iintro ⟨⟨⟨HS, Hb⟩, Hg⟩, Ho, H0, H1, H2, H3, H4⟩
    iapply (feat_first c (grid0.coords t) _ _ _ _ _ _ _ _ _ _ _ (Memref.isWhole_whole cc0_scratch0) ((first0 t).mpr h0) (fun h => (later0 t).mp h h0) (blkA V c 0 t) (blkA V c 1 t) Set.univ _)
    isplitl [H0]; · iexact H0
    isplitl [H1]; · iexact H1
    isplitl [HS]; · iexact HS
    iintro ⟨H0, H1, HS⟩
    isplitl [HS Hb Hg]
    · isplitl [HS Hb]
      · isplitl [HS]
        · unfold cheb; rw [blkA0, blkA1]; iexact HS
        iexact Hb
      iexact Hg
    isplitl [Ho]; · iexact Ho
    isplitl [H0]; · iexact H0
    isplitl [H1]; · iexact H1
    isplitl [H2]; · iexact H2
    isplitl [H3]; · iexact H3
    iexact H4
  · have hlive := (idle0_4 t).1.trans (decide_eq_false h0)
    rw [show (feed0 V c).leavesExact 4 t = owns (c : Thread nD τ) (st0_4 t) fullShare ((feed0 V c).after 4 t) from by
      unfold Dat.leavesExact; rw [hlive], feed0_4]
    obtain ⟨n, hn⟩ := Nat.exists_eq_succ_of_ne_zero h0
    rw [show inv0 V c t.val = inv0 V c (t.val + 1) from by rw [hn]; rfl]
    unfold inv0 held0
    iintro ⟨⟨⟨HS, Hb⟩, Hg⟩, Ho, H0, H1, H2, H3, ⟨%d4, H4⟩⟩
    iapply (feat_later c (grid0.coords t) _ _ _ _ _ _ _ _ _ _ _ (Memref.isWhole_whole cc0_scratch0) (fun h => h0 ((first0 t).mp h)) ((later0 t).mpr h0) (blkA V c 2 t) (blkA V c 3 t) (cheb V c) Set.univ _)
    isplitl [H2]; · iexact H2
    isplitl [H3]; · iexact H3
    isplitl [H4]; · iexists _; iexact H4
    isplitl [HS]; · iexact HS
    iintro ⟨H2, H3, H4, HS⟩
    isplitl [HS Hb Hg]
    · isplitl [HS Hb]
      · isplitl [HS]
        · iexact HS
        iexact Hb
      iexact Hg
    isplitl [Ho]; · iexact Ho
    isplitl [H0]; · iexact H0
    isplitl [H1]; · iexact H1
    isplitl [H2]; · iexact H2
    isplitl [H3]; · iexact H3
    rw [ld_slab (cheb V c) (turn0 t) (k0_off1 (grid0.coords t)) (k0_off1_inb (grid0.coords t) ((later0 t).mpr h0)) (off0 t h0)]
    unfold layer1
    rw [blkA2, blkA3]
    iexact H4

/-- The row of the body table the pipeline calls at point `t`. -/
theorem row0 (t : Fin cfg0.N) : defs₀ (F := F) .tc cfg0.body (cfg0.bodyArgs t (cfg0.slots t)) = bodyAt0 t := by
  unfold defs₀; rw [Defs.onTc_tc]

/-- The obligation of the first call's body, at every point. -/
theorem body0 (c : Dev nD) : BodyObligation (feed0 (F := F) V c) (defs₀ (F := F)) Variants.none () Set.univ := fun t => by
  rw [bigSep_W0, bigSep_W0, row0]
  refine triple_restated (point0 V c t) rfl ?_ fun _ => .rfl
  unfold ask0
  obtain ⟨e0, e1, e2, e3⟩ := found0 V c t
  simp only [e0, e1, e2, e3]
  rw [feed0_inv, show t.castSucc.val = t.val from rfl]
  iintro ⟨HΦ, Ho, ⟨%d0, H0⟩, ⟨%d1, H1⟩, ⟨%d2, H2⟩, ⟨%d3, H3⟩, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The output window of the first call at a later point is on the block it writes. -/
theorem where0 : ∀ t : Fin cfg0.N, win0_4.index t = ![t.val - 1, 0] :=
  (by decide +kernel : ∀ t : Fin grid0.N, win0_4.index t = ![t.val - 1, 0])

/-- The first call leaves the whole first layer in its result array. -/
theorem final0 (c : Dev nD) : (feed0 V c).arrAt 4 cfg0.N = stacked (layer1 V c) := by
  refine (feed0 V c).arrAt_eq_of_cover 4 (stacked (layer1 V c)) (fun t ht => ?_) (fun i => ?_)
  · funext y
    show (feed0 V c).after 4 t y = stacked (layer1 V c) (((cfg0.win 4).blk t).view.emb y)
    rw [feed0_4]
    refine (stacked_at (layer1 V c) _ (turn0 t) y ?_ ?_).symm
    · have e := congrFun (where0 t) 0
      have h := Pipeline.Window.rect_emb_val win0_4 t y 0
      refine h.trans ?_
      rw [e]; show (t.val - 1) * 256 + (y 0).val = 256 * (t.val - 1) + (y 0).val; omega
    · exact Pipeline.Window.rect_emb_val_of_index_zero win0_4 t 1 (congrFun (where0 t) 1) y
  · have hb := (rowBlock i).isLt
    have hN : cfg0.N = 9 := N_0
    refine ⟨⟨(rowBlock i).val + 1, by omega⟩, (idle0_4 _).2.trans (decide_eq_true (Nat.succ_ne_zero _)), ?_⟩
    have h := ((cfg0.win 4).blk (⟨(rowBlock i).val + 1, by omega⟩ : Fin cfg0.N)).view.emb_mem_set (rowPlace i)
    convert h using 1
    funext a
    apply Fin.ext
    match a with
    | ⟨0, _⟩ =>
      refine Eq.trans ?_ (Pipeline.Window.rect_emb_val win0_4 _ _ 0).symm
      rw [congrFun (where0 _) 0]
      show (i 0).val = ((i 0).val / 256 + 1 - 1) * 256 + (i 0).val % 256
      omega
    | ⟨1, _⟩ =>
      refine Eq.trans ?_ (Pipeline.Window.rect_emb_val_of_index_zero win0_4 _ 1 (congrFun (where0 _) 1) _).symm
      rfl

end Cert.KernelIdeal.Sgcn

end
-- ==== Proof.Sgcn.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import proofs.«01_k».proof.Proof.Sgcn.Rows

@[expose] public section

set_option maxRecDepth 16384

noncomputable section

namespace Cert.KernelIdeal.Sgcn

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A 2048-row matrix with its block `b` replaced. -/
def overlay {α : Type} {n : ℕ} (X : (⟨2, ![2048, n]⟩ : Shape).Idx → α) (b : Fin 8) (B : (⟨2, ![256, n]⟩ : Shape).Idx → α) :
    (⟨2, ![2048, n]⟩ : Shape).Idx → α :=
  fun j => if rowBlock j = b then B (rowPlace j) else X j

/-- Storing 256 rows from the start of a block replaces that block of what is read. -/
theorem read_store_slab {Val : EltTy → Type} {sg : RefSig} {k : Kind} {sp : Space} {e : EltTy} {n : ℕ}
    (v : View sg k sp ⟨2, ![2048, n]⟩ e) (f : v.ty.Contents Val) (b : Fin 8)
    (off : Fin 2 → ℕ) (hin : ∀ a, off a + (![256, n] : Fin 2 → ℕ) a ≤ (![2048, n] : Fin 2 → ℕ) a) (ho : off = ![256 * b.val, 0])
    (w : (⟨2, ![256, n]⟩ : Shape).Idx → Val e) :
    v.read Val (v.writes Val f [⟨Rect.unit (s := ⟨2, ![2048, n]⟩) off ![256, n] hin, w⟩]) = overlay (v.read Val f) b w := by
  funext j
  unfold overlay
  split
  · next h =>
    have hb : (j 0).val / 256 = b.val := congrArg Fin.val h
    exact View.read_writes_cons_rows_of_mem v f hin w [] j (rowPlace j) ho
      (by show (j 0).val = 256 * b.val + (j 0).val % 256; omega) rfl
  · next h =>
    have hb : ¬ (j 0).val / 256 = b.val := fun e => h (Fin.ext e)
    exact View.read_writes_cons_rows_of_not_mem v f hin w [] j ho rfl (by have h2 : (⟨2, ![2048, n]⟩ : Shape).size 0 = 2048 := rfl; show (j 0).val < _ ∨ 256 * b.val + 256 ≤ (j 0).val; omega)

/-- Every 128-column piece lies inside the 4096 columns. -/
theorem cut : ∀ q : Fin 32, S256x4096.Slices ![0, 128 * q.val] S256x128 := by decide +kernel

/-- Every 128-column piece is a legal place to store to. -/
theorem fits : ∀ q : Fin 32, ∀ a, (![0, 128 * q.val] : Fin 2 → ℕ) a + S256x128.size a ≤ S256x4096.size a := by decide +kernel

/-- Columns `128 q … 128 q + 127` of the second layer's output, from the four Chebyshev blocks. -/
def piece2 (y0 y1 y2 y3 : Vec F S256x4096 .bf16) (p : Vec F S512x128 .bf16) (b : Vec F S1x128 .bf16) (q : Fin 32) : Vec F S256x128 .bf16 :=
  shapeCast S256x128 (maximumf (addf (truncf .bf16 (matmul dot_S256x512_S512x128_S256x128_1_0_0_1_n_n none
    (concatenate S256x512 1 [⟨S256x128, extractStridedSlice S256x128 ![0, 128 * q.val] y0 (cut q)⟩, ⟨S256x128, extractStridedSlice S256x128 ![0, 128 * q.val] y1 (cut q)⟩,
      ⟨S256x128, extractStridedSlice S256x128 ![0, 128 * q.val] y2 (cut q)⟩, ⟨S256x128, extractStridedSlice S256x128 ![0, 128 * q.val] y3 (cut q)⟩]
      concatenates_S256x128_S256x128_S256x128_S256x128_S256x512_d1) p (constant S256x128 .f32 0x00000000#32)) bitsLt_bf16_f32)
    (broadcastTo S256x128 b broadcasts_S1x128_S256x128)) (broadcast S256x128 (Scalar.ofBits .bf16 0x0000#16))) shapeCasts_S256x128_S256x128

/-- The second layer's output on one block of rows. -/
def layer2 (y0 y1 y2 y3 : Vec F S256x4096 .bf16) (p : Vec F S512x128 .bf16) (b : Vec F S1x128 .bf16) : Vec F S256x4096 .bf16 :=
  fun j => piece2 y0 y1 y2 y3 p b ⟨(j 1).val / 128, by have h : (j 1).val < 4096 := (j 1).isLt; omega⟩
    (ix2 (j 0) ⟨(j 1).val % 128, Nat.mod_lt _ (by decide)⟩)

/-- The stores of the 32 column pieces, last first. -/
def stores2 (y0 y1 y2 y3 : Vec F S256x4096 .bf16) (p : Vec F S512x128 .bf16) (b : Vec F S1x128 .bf16) : List (View.Piece (Elt F) S256x4096 .bf16) :=
  (List.finRange 32).reverse.map fun q => ⟨Rect.unit (s := S256x4096) ![0, 128 * q.val] S256x128.size (fits q), piece2 y0 y1 y2 y3 p b q⟩

/-- After the 32 stores the buffer reads the second layer's output. -/
theorem read_stores2 {sg : RefSig} {k : Kind} {sp : Space} (v : View sg k sp S256x4096 .bf16) (f : v.ty.Contents (Elt F))
    (y0 y1 y2 y3 : Vec F S256x4096 .bf16) (p : Vec F S512x128 .bf16) (b : Vec F S1x128 .bf16) :
    v.read (Elt F) (v.writes (Elt F) f (stores2 y0 y1 y2 y3 p b)) = layer2 y0 y1 y2 y3 p b := by
  funext j
  refine View.read_writes_apply_of_pieces v f (layer2 y0 y1 y2 y3 p b) _ ?_ j ?_
  · intro pc hp
    obtain ⟨q, -, rfl⟩ := List.mem_map.mp hp
    intro x
    have h0 : (x 0).val < 256 := (x 0).isLt
    have h1 : (x 1).val < 128 := (x 1).isLt
    show piece2 y0 y1 y2 y3 p b q x = layer2 y0 y1 y2 y3 p b ((Rect.unit (s := S256x4096) ![0, 128 * q.val] S256x128.size (fits q)).emb x)
    unfold layer2
    have e0 : (((Rect.unit (s := S256x4096) ![0, 128 * q.val] S256x128.size (fits q)).emb x) 0).val = 0 + 1 * (x 0).val := rfl
    have e1 : (((Rect.unit (s := S256x4096) ![0, 128 * q.val] S256x128.size (fits q)).emb x) 1).val = 128 * q.val + 1 * (x 1).val := rfl
    congr 1
    · exact Fin.ext (by show q.val = _ / 128; rw [e1]; omega)
    · rw [eq_ix2 x]
      congr 1
      · exact Fin.ext (by show (x 0).val = 0 + 1 * (x 0).val; omega)
      · exact Fin.ext (by show (x 1).val = (128 * q.val + 1 * (x 1).val) % 128; omega)
  · have h0 : (j 0).val < 256 := (j 0).isLt
    have h1 : (j 1).val < 4096 := (j 1).isLt
    let q : Fin 32 := ⟨(j 1).val / 128, by omega⟩
    refine ⟨_, List.mem_map.mpr ⟨q, List.mem_reverse.mpr (List.mem_finRange q), rfl⟩, ?_⟩
    have hm := (Rect.unit (s := S256x4096) ![0, 128 * q.val] S256x128.size (fits q)).toLoadRect.idx_mem (ix2 (n0 := 256) (n1 := 128) (j 0) ⟨(j 1).val % 128, Nat.mod_lt _ (by decide)⟩)
    convert hm using 1
    funext a
    apply Fin.ext
    match a with
    | ⟨0, _⟩ => show (j 0).val = 0 + 1 * (j 0).val; omega
    | ⟨1, _⟩ => show (j 1).val = 128 * ((j 1).val / 128) + 1 * ((j 1).val % 128); omega

/-- The last linear layer on one block of rows. -/
def headed (g : Vec F S256x4096 .bf16) (w : Vec F S4096x10 .bf16) (b : Vec F S8x10 .f32) : Vec F S256x10 .f32 :=
  k1_pay6 (k1_pay56 g w) (k1_pay57 (View.ld b (Rect.unit (s := S8x10) ![0, 0] S1x10.size inb_S8x10_S1x10_0_0)))

set_option maxHeartbeats 2000000 in
/-- The second call's body in its first pass: a block of the first Chebyshev step is laid down, and the output memref is zeroed. -/
theorem pass_one (c : Dev nD) (i : grid1.Coords) (arg2 : Memref sig .tc .vmem S256x2048 .f32) (harg2 : arg2.IsWhole) (arg3 : Memref sig .tc .vmem S2048x4096 .bf16) (harg3 : arg3.IsWhole) (arg4 : Memref sig .tc .vmem S512x128 .bf16) (harg4 : arg4.IsWhole) (arg5 : Memref sig .tc .vmem S1x128 .bf16) (harg5 : arg5.IsWhole) (arg6 : Memref sig .tc .vmem S4096x10 .bf16) (harg6 : arg6.IsWhole) (arg7 : Memref sig .tc .vmem S8x10 .f32) (harg7 : arg7.IsWhole) (arg8 : Memref sig .tc .vmem S256x10 .f32) (harg8 : arg8.IsWhole) (arg9 : Memref sig .tc .vmem S2048x4096 .bf16) (harg9 : arg9.IsWhole) (arg10 : Memref sig .tc .vmem S2048x4096 .bf16) (harg10 : arg10.IsWhole) (arg11 : Memref sig .tc .vmem S256x4096 .bf16) (harg11 : arg11.IsWhole)
    (hc1 : k1_cond1 i = 1#1) (hc2 : ¬ k1_cond2 i = 1#1) (hc3 : ¬ k1_cond3 i = 1#1) (b : Fin 8) (hb : (i 1).val = b.val)
    (l : Vec F S256x2048 .f32) (y0 : Vec F S2048x4096 .bf16) (xs : Vec F S2048x4096 .bf16) (E : Set ℕ) (K : PUnit → sProp 𝕄) :
    iprop(owns (c : Thread nD τ) arg2 fullShare l ∗ owns (c : Thread nD τ) arg3 fullShare y0 ∗ (∃ d, owns (c : Thread nD τ) arg8 fullShare d) ∗ owns (c : Thread nD τ) arg9 fullShare xs
        ∗ (iprop(owns (c : Thread nD τ) arg2 fullShare l ∗ owns (c : Thread nD τ) arg3 fullShare y0 ∗ owns (c : Thread nD τ) arg8 fullShare (k1_pay3 (F := F))
            ∗ owns (c : Thread nD τ) arg9 fullShare (overlay xs b (k1_pay2 l y0))) -∗ K ⟨⟩))
      ⊢ wp frame (wpE (defs₀ (F := F)) Variants.none c none) E (cc1__s2_kernel i arg2 harg2 arg3 harg3 arg4 harg4 arg5 harg5 arg6 harg6 arg7 harg7 arg8 harg8 arg9 harg9 arg10 harg10 arg11 harg11) K := by
  simp only [cc1__s2_kernel_eq_skeleton]; unfold cc1__s2_kernel_skel
  unfold owns
  iintro ⟨⟨%f0, %hf0, H0⟩, ⟨%f1, %hf1, H1⟩, ⟨%d8, %f8, -, H8⟩, ⟨%fs, %hfs, HS⟩, Hk⟩
  obtain rfl := harg2.eq_unread hf0; obtain rfl := harg3.eq_unread hf1; obtain rfl := harg9.eq_unread hfs
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H8]
  · iexists _; isplitr; swap; · iexact H8
    ipureintro; exact View.read_writes_full _ _ _ _ _
  iexists _; isplitr; swap; · iexact HS
  ipureintro
  rw [View.readAt_full, View.readAt_full, hf0, hf1]
  exact (read_store_slab arg9.view _ b _ _ ((k1_off1_eq i).trans (by rw [hb])) _).trans (by rw [hfs])

set_option maxHeartbeats 2000000 in
/-- The second call's body in its second pass: a block of the second Chebyshev step is laid down from the whole first step. -/
theorem pass_two (c : Dev nD) (i : grid1.Coords) (arg2 : Memref sig .tc .vmem S256x2048 .f32) (harg2 : arg2.IsWhole) (arg3 : Memref sig .tc .vmem S2048x4096 .bf16) (harg3 : arg3.IsWhole) (arg4 : Memref sig .tc .vmem S512x128 .bf16) (harg4 : arg4.IsWhole) (arg5 : Memref sig .tc .vmem S1x128 .bf16) (harg5 : arg5.IsWhole) (arg6 : Memref sig .tc .vmem S4096x10 .bf16) (harg6 : arg6.IsWhole) (arg7 : Memref sig .tc .vmem S8x10 .f32) (harg7 : arg7.IsWhole) (arg8 : Memref sig .tc .vmem S256x10 .f32) (harg8 : arg8.IsWhole) (arg9 : Memref sig .tc .vmem S2048x4096 .bf16) (harg9 : arg9.IsWhole) (arg10 : Memref sig .tc .vmem S2048x4096 .bf16) (harg10 : arg10.IsWhole) (arg11 : Memref sig .tc .vmem S256x4096 .bf16) (harg11 : arg11.IsWhole)
    (hc1 : ¬ k1_cond1 i = 1#1) (hc2 : k1_cond2 i = 1#1) (hc3 : ¬ k1_cond3 i = 1#1) (b : Fin 8) (hb : (i 1).val = b.val)
    (l : Vec F S256x2048 .f32) (y0 : Vec F S2048x4096 .bf16) (xs ys : Vec F S2048x4096 .bf16) (E : Set ℕ) (K : PUnit → sProp 𝕄) :
    iprop(owns (c : Thread nD τ) arg2 fullShare l ∗ owns (c : Thread nD τ) arg3 fullShare y0 ∗ (∃ d, owns (c : Thread nD τ) arg8 fullShare d) ∗ owns (c : Thread nD τ) arg9 fullShare xs
        ∗ owns (c : Thread nD τ) arg10 fullShare ys
        ∗ (iprop(owns (c : Thread nD τ) arg2 fullShare l ∗ owns (c : Thread nD τ) arg3 fullShare y0 ∗ owns (c : Thread nD τ) arg8 fullShare (k1_pay5 (F := F))
            ∗ owns (c : Thread nD τ) arg9 fullShare xs ∗ owns (c : Thread nD τ) arg10 fullShare (overlay ys b (k1_pay4 l xs (slab y0 b)))) -∗ K ⟨⟩))
      ⊢ wp frame (wpE (defs₀ (F := F)) Variants.none c none) E (cc1__s2_kernel i arg2 harg2 arg3 harg3 arg4 harg4 arg5 harg5 arg6 harg6 arg7 harg7 arg8 harg8 arg9 harg9 arg10 harg10 arg11 harg11) K := by
  simp only [cc1__s2_kernel_eq_skeleton]; unfold cc1__s2_kernel_skel
  unfold owns
  iintro ⟨⟨%f0, %hf0, H0⟩, ⟨%f1, %hf1, H1⟩, ⟨%d8, %f8, -, H8⟩, ⟨%fs, %hfs, HS⟩, ⟨%fr, %hfr, HR⟩, Hk⟩
  obtain rfl := harg2.eq_unread hf0; obtain rfl := harg3.eq_unread hf1; obtain rfl := harg9.eq_unread hfs; obtain rfl := harg10.eq_unread hfr
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H8]
  · iexists _; isplitr; swap; · iexact H8
    ipureintro; exact View.read_writes_full _ _ _ _ _
  isplitl [HS]
  · iexists _; isplitr; · ipureintro; exact harg9.read_unread _
    iexact HS
  iexists _; isplitr; swap; · iexact HR
  ipureintro
  have ho : k1_off2 i = ![256 * b.val, 0] := (k1_off2_eq i).trans (by rw [hb])
  rw [View.readAt_full, View.readAt_full, View.readAt_eq_ld, hf0, hf1, hfs]
  rw [show View.ld y0 (Rect.unit (s := S2048x4096) (k1_off2 i) S256x4096.size (k1_off2_inb i hc2)) = slab y0 b from ld_slab y0 b _ _ ho]
  exact (read_store_slab arg10.view _ b _ _ ho _).trans (by rw [hfr])

set_option maxHeartbeats 8000000 in
set_option maxRecDepth 65536 in
/-- The second call's body in its third pass: one block of rows of the kernel's result. -/
theorem pass_three (c : Dev nD) (i : grid1.Coords) (arg2 : Memref sig .tc .vmem S256x2048 .f32) (harg2 : arg2.IsWhole) (arg3 : Memref sig .tc .vmem S2048x4096 .bf16) (harg3 : arg3.IsWhole) (arg4 : Memref sig .tc .vmem S512x128 .bf16) (harg4 : arg4.IsWhole) (arg5 : Memref sig .tc .vmem S1x128 .bf16) (harg5 : arg5.IsWhole) (arg6 : Memref sig .tc .vmem S4096x10 .bf16) (harg6 : arg6.IsWhole) (arg7 : Memref sig .tc .vmem S8x10 .f32) (harg7 : arg7.IsWhole) (arg8 : Memref sig .tc .vmem S256x10 .f32) (harg8 : arg8.IsWhole) (arg9 : Memref sig .tc .vmem S2048x4096 .bf16) (harg9 : arg9.IsWhole) (arg10 : Memref sig .tc .vmem S2048x4096 .bf16) (harg10 : arg10.IsWhole) (arg11 : Memref sig .tc .vmem S256x4096 .bf16) (harg11 : arg11.IsWhole)
    (hc1 : ¬ k1_cond1 i = 1#1) (hc2 : ¬ k1_cond2 i = 1#1) (hc3 : k1_cond3 i = 1#1) (b : Fin 8) (hb : (i 1).val = b.val)
    (l : Vec F S256x2048 .f32) (y0 : Vec F S2048x4096 .bf16) (p : Vec F S512x128 .bf16) (bg : Vec F S1x128 .bf16) (w : Vec F S4096x10 .bf16) (bf : Vec F S8x10 .f32)
    (xs ys : Vec F S2048x4096 .bf16) (E : Set ℕ) (K : PUnit → sProp 𝕄) :
    iprop(owns (c : Thread nD τ) arg2 fullShare l ∗ owns (c : Thread nD τ) arg3 fullShare y0 ∗ owns (c : Thread nD τ) arg4 fullShare p ∗ owns (c : Thread nD τ) arg5 fullShare bg
        ∗ owns (c : Thread nD τ) arg6 fullShare w ∗ owns (c : Thread nD τ) arg7 fullShare bf ∗ (∃ d, owns (c : Thread nD τ) arg8 fullShare d)
        ∗ owns (c : Thread nD τ) arg9 fullShare xs ∗ owns (c : Thread nD τ) arg10 fullShare ys ∗ (∃ d, owns (c : Thread nD τ) arg11 fullShare d)
        ∗ (iprop(owns (c : Thread nD τ) arg2 fullShare l ∗ owns (c : Thread nD τ) arg3 fullShare y0 ∗ owns (c : Thread nD τ) arg4 fullShare p ∗ owns (c : Thread nD τ) arg5 fullShare bg
            ∗ owns (c : Thread nD τ) arg6 fullShare w ∗ owns (c : Thread nD τ) arg7 fullShare bf
            ∗ owns (c : Thread nD τ) arg8 fullShare (headed (layer2 (k1_pay8 (slab y0 b)) (slab xs b) (slab ys b) (k1_pay7 (k1_pay1 l) ys (slab xs b)) (k1_pay9 p) (k1_pay10 bg)) w bf)
            ∗ owns (c : Thread nD τ) arg9 fullShare xs ∗ owns (c : Thread nD τ) arg10 fullShare ys ∗ (∃ d, owns (c : Thread nD τ) arg11 fullShare d)) -∗ K ⟨⟩))
      ⊢ wp frame (wpE (defs₀ (F := F)) Variants.none c none) E (cc1__s2_kernel i arg2 harg2 arg3 harg3 arg4 harg4 arg5 harg5 arg6 harg6 arg7 harg7 arg8 harg8 arg9 harg9 arg10 harg10 arg11 harg11) K := by
  simp only [cc1__s2_kernel_eq_skeleton]; unfold cc1__s2_kernel_skel
  simp only [k1_part11_eq_skeleton]; unfold k1_part11_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold k1_part1_skel k1_part2_skel k1_part3_skel k1_part4_skel k1_part5_skel k1_part6_skel k1_part7_skel k1_part8_skel k1_part9_skel k1_part10_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, ⟨%fr, %hfr, HR⟩, ⟨%dg, %fg, -, HG⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg9.eq_unread hfs; obtain rfl := harg10.eq_unread hfr
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    have ho : k1_off3 i = ![256 * b.val, 0] := (k1_off3_eq i).trans (by rw [hb])
    rw [View.read_writes_full]
    simp only [View.readAt_full, View.readAt_eq_ld, hf2, hf3, hf4, hf5, hf6, hf7, hfs, hfr]
    rw [ld_whole w]
    show headed _ w bf = headed _ w bf
    congr 1
    unfold pass_three.sl.v479 View.readCov
    rw [View.readAt_full]
    refine Eq.trans ?_ (read_stores2 arg11.view arg11.view.junk _ _ _ _ _ _)
    congr 2
    unfold pass_three.sl.HG_32
    have r2 : View.readAt (Elt F) arg2.view (Rect.unit ![0, 0] ![256, 2048] inb_S256x2048_S256x2048_0_0).toLoadRect (harg2.unread l) = l := by
      rw [View.readAt_eq_ld, hf2]; exact ld_whole l _
    have r4 : View.readAt (Elt F) arg4.view (Rect.unit ![0, 0] S512x128.size inb_S512x128_S512x128_0_0).toLoadRect (harg4.unread p) = p := by
      rw [View.readAt_full, hf4]
    have r5 : View.readAt (Elt F) arg5.view (Rect.unit ![0, 0] S1x128.size inb_S1x128_S1x128_0_0).toLoadRect (harg5.unread bg) = bg := by
      rw [View.readAt_full, hf5]
    have r10 : View.readAt (Elt F) arg10.view (Rect.unit ![0, 0] S2048x4096.size inb_S2048x4096_S2048x4096_0_0).toLoadRect (harg10.unread ys) = ys := by
      rw [View.readAt_full, hfr]
    have q3 : View.readAt (Elt F) arg3.view (Rect.unit (s := S2048x4096) (k1_off3 i) S256x4096.size (k1_off3_inb i hc3)).toLoadRect (harg3.unread y0) = slab y0 b := by
      rw [View.readAt_eq_ld, hf3]; exact ld_slab y0 b _ _ ho
    have q9 : View.readAt (Elt F) arg9.view (Rect.unit (s := S2048x4096) (k1_off3 i) S256x4096.size (k1_off3_inb i hc3)).toLoadRect (harg9.unread xs) = slab xs b := by
      rw [View.readAt_eq_ld, hfs]; exact ld_slab xs b _ _ ho
    have q10 : View.readAt (Elt F) arg10.view (Rect.unit (s := S2048x4096) (k1_off3 i) S256x4096.size (k1_off3_inb i hc3)).toLoadRect (harg10.unread ys) = slab ys b := by
      rw [View.readAt_eq_ld, hfr]; exact ld_slab ys b _ _ ho
    simp only [r2, r4, r5, r10, q3, q9, q10]
    rfl
  isplitl [HS]
  · iexists _; isplitr; · ipureintro; exact harg9.read_unread _
    iexact HS
  isplitl [HR]
  · iexists _; isplitr; · ipureintro; exact harg10.read_unread _
    iexact HR
  iexists _; iexists _; isplitr; swap; · iexact HG
  ipureintro; rfl

end Cert.KernelIdeal.Sgcn

end
-- ==== Proof.Sgcn.Second.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.WordCmp
public import Idealize.ShloMosaic.Lib.VecWindow
public import proofs.«01_k».proof.Proof.Sgcn.Body

@[expose] public section

set_option maxRecDepth 16384

noncomputable section

namespace Cert.KernelIdeal.Sgcn

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the second call at point `t`, read from its array as the call finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block a point of the second call works on. -/
def turn1 (t : Fin cfg1.N) : Fin 8 := ⟨t.val % 8, Nat.mod_lt _ (by decide)⟩

/-- Five inputs of the second call sit at block zero at every point. -/
theorem still1 : ∀ t : Fin cfg1.N, (∀ a, win1_1.index t a = 0) ∧ (∀ a, win1_2.index t a = 0) ∧ (∀ a, win1_3.index t a = 0)
    ∧ (∀ a, win1_4.index t a = 0) ∧ (∀ a, win1_5.index t a = 0) :=
  (by decide +kernel : ∀ t : Fin grid1.N, _)

/-- The Laplacian and the result of the second call sit at the block of the point's turn. -/
theorem where1 : ∀ t : Fin cfg1.N, win1_0.index t = ![t.val % 8, 0] ∧ win1_6.index t = ![t.val % 8, 0] ∧ (grid1.coords t 1).val = t.val % 8 :=
  (by decide +kernel : ∀ t : Fin grid1.N, win1_0.index t = ![t.val % 8, 0] ∧ win1_6.index t = ![t.val % 8, 0] ∧ (grid1.coords t 1).val = t.val % 8)

/-- The three passes of the second call: eight points each. -/
theorem passes1 : ∀ t : Fin cfg1.N, (k1_cond1 (grid1.coords t) = 1#1 ↔ t.val < 8) ∧ (k1_cond2 (grid1.coords t) = 1#1 ↔ 8 ≤ t.val ∧ t.val < 16)
    ∧ (k1_cond3 (grid1.coords t) = 1#1 ↔ 16 ≤ t.val) ∧ cfg1.idle 6 (cfg1.grid.coords t) = false :=
  (by decide +kernel : ∀ t : Fin grid1.N, (k1_cond1 (grid1.coords t) = 1#1 ↔ t.val < 8) ∧ (k1_cond2 (grid1.coords t) = 1#1 ↔ 8 ≤ t.val ∧ t.val < 16)
    ∧ (k1_cond3 (grid1.coords t) = 1#1 ↔ 16 ≤ t.val) ∧ idle1 6 (grid1.coords t) = false)

/-- The Laplacian block of the second call is the block of rows of the point's turn. -/
theorem blkB0 (c : Dev nD) (t : Fin cfg1.N) : blkB V c 0 t = slab (V c main_v52) (turn1 t) := by
  funext j
  refine slab_at (V c main_v52) (turn1 t) j (((cfg1.win 0).blk t).view.emb j) ?_ ?_
  · refine (Pipeline.Window.rect_emb_val win1_0 t j 0).trans ?_
    rw [congrFun (where1 t).1 0]; show t.val % 8 * 256 + (j 0).val = 256 * (t.val % 8) + (j 0).val; omega
  · exact Pipeline.Window.rect_emb_val_of_index_zero win1_0 t 1 (congrFun (where1 t).1 1) j
/-- The first layer's block of the second call is the whole array. -/
theorem blkB1 (c : Dev nD) (t : Fin cfg1.N) : blkB V c 1 t = V c main_v50 := by
  funext j
  show V c main_v50 (((cfg1.win 1).blk t).view.emb j) = V c main_v50 j
  congr 1; funext a; exact Fin.ext (Pipeline.Window.rect_emb_val_of_index_zero win1_1 t a ((still1 t).1 a) j)
/-- The second layer's weight block is the whole array. -/
theorem blkB2 (c : Dev nD) (t : Fin cfg1.N) : blkB V c 2 t = V c main_v33 := by
  funext j
  show V c main_v33 (((cfg1.win 2).blk t).view.emb j) = V c main_v33 j
  congr 1; funext a; exact Fin.ext (Pipeline.Window.rect_emb_val_of_index_zero win1_2 t a ((still1 t).2.1 a) j)
/-- The second layer's bias block is the whole array. -/
theorem blkB3 (c : Dev nD) (t : Fin cfg1.N) : blkB V c 3 t = V c main_v38 := by
  funext j
  show V c main_v38 (((cfg1.win 3).blk t).view.emb j) = V c main_v38 j
  congr 1; funext a; exact Fin.ext (Pipeline.Window.rect_emb_val_of_index_zero win1_3 t a ((still1 t).2.2.1 a) j)
/-- The linear layer's weight block is the whole array. -/
theorem blkB4 (c : Dev nD) (t : Fin cfg1.N) : blkB V c 4 t = V c main_v41 := by
  funext j
  show V c main_v41 (((cfg1.win 4).blk t).view.emb j) = V c main_v41 j
  congr 1; funext a; exact Fin.ext (Pipeline.Window.rect_emb_val_of_index_zero win1_4 t a ((still1 t).2.2.2.1 a) j)
/-- The linear layer's bias block is the whole array. -/
theorem blkB5 (c : Dev nD) (t : Fin cfg1.N) : blkB V c 5 t = V c main_v47 := by
  funext j
  show V c main_v47 (((cfg1.win 5).blk t).view.emb j) = V c main_v47 j
  congr 1; funext a; exact Fin.ext (Pipeline.Window.rect_emb_val_of_index_zero win1_5 t a ((still1 t).2.2.2.2 a) j)

/-- The first Chebyshev step over the first layer's output, block by block. -/
def step1 (c : Dev nD) : Vec F S2048x4096 .bf16 := stacked fun b => k1_pay2 (slab (V c main_v52) b) (V c main_v50)

/-- The second Chebyshev step. -/
def step2 (c : Dev nD) : Vec F S2048x4096 .bf16 := stacked fun b => k1_pay4 (slab (V c main_v52) b) (step1 V c) (slab (V c main_v50) b)

/-- Block `b` of the result. -/
def answer (c : Dev nD) (b : Fin 8) : Vec F S256x10 .f32 :=
  headed (layer2 (k1_pay8 (slab (V c main_v50) b)) (slab (step1 V c) b) (slab (step2 V c) b)
    (k1_pay7 (k1_pay1 (slab (V c main_v52) b)) (step2 V c) (slab (step1 V c) b)) (k1_pay9 (V c main_v33)) (k1_pay10 (V c main_v38))) (V c main_v41) (V c main_v47)

/-- What the second call leaves in its output memref at point `t`: zeros in the first two passes, then a block of the result. -/
def shown (c : Dev nD) (t : Fin cfg1.N) : Vec F S256x10 .f32 :=
  if t.val < 8 then k1_pay3 else if t.val < 16 then k1_pay5 else answer V c (turn1 t)

/-- The buffers of the first call, which the second call leaves alone. -/
def beside1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f))

/-- Before point `n`, the blocks of the two steps that the passed points have laid down. -/
def laid (c : Dev nD) (n : ℕ) (xs ys : Vec F S2048x4096 .bf16) : Prop :=
  (∀ j : S2048x4096.Idx, (rowBlock (n := 4096) j).val < n → xs j = step1 V c j) ∧ (∀ j : S2048x4096.Idx, (rowBlock (n := 4096) j).val + 8 < n → ys j = step2 V c j)

/-- The scratch buffers of the second call before point `n`. -/
def held1 (c : Dev nD) (n : ℕ) : sProp 𝕄 :=
  iprop(∃ xs ys, ⌜laid V c n xs ys⌝ ∗ owns (c : Thread nD τ) (Memref.whole cc1_scratch0) fullShare xs ∗ owns (c : Thread nD τ) (Memref.whole cc1_scratch1) fullShare ys
    ∗ (∃ d, owns (c : Thread nD τ) (Memref.whole cc1_scratch2) fullShare d))

/-- The invariant of the second call before point `n`. -/
def inv1 (c : Dev nD) (n : ℕ) : sProp 𝕄 := iprop((beside1 c ∗ held1 V c n) ∗ ∃ r, prngReg c r)

/-- The scoped buffers outside the second call's windows: the first call's buffers and the three scratch buffers. -/
theorem rest1 (c : Dev nD) : (Pipeline.scopedRest spec1 c : sProp 𝕄)
    = iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f)
    ∗ (∃ d, owns (c : Thread nD τ) (Memref.whole cc1_scratch0) fullShare d) ∗ (∃ d, owns (c : Thread nD τ) (Memref.whole cc1_scratch1) fullShare d)
    ∗ (∃ d, owns (c : Thread nD τ) (Memref.whole cc1_scratch2) fullShare d)) := by
  rw [scopedRest1_eq]; simp only [owns_whole]; try rfl

/-- The proof data of the second call. -/
def feed1 (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => blkB V c 4 t
    | ⟨5, _⟩ => blkB V c 5 t
    | ⟨6, _⟩ => shown V c t
  Φ t := inv1 V c t.val
  q _ := fullShare
  owed _ := 0

/-- The feed keeps every array of the launch as it was on entry. -/
theorem feed1_A (c : Dev nD) (w : Fin cfg1.W) : (feed1 V c).A w = V c (Pipeline.arrRef spec1 w) := by dsimp only [feed1]
/-- After step `t` window 0 holds its own block of the array it reads. -/
theorem feed1_0 (c : Dev nD) (t : Fin cfg1.N) : (feed1 V c).after 0 t = blkB V c 0 t := by dsimp only [feed1]
/-- After step `t` window 1 holds its own block of the array it reads. -/
theorem feed1_1 (c : Dev nD) (t : Fin cfg1.N) : (feed1 V c).after 1 t = blkB V c 1 t := by dsimp only [feed1]
/-- After step `t` window 2 holds its own block of the array it reads. -/
theorem feed1_2 (c : Dev nD) (t : Fin cfg1.N) : (feed1 V c).after 2 t = blkB V c 2 t := by dsimp only [feed1]
/-- After step `t` window 3 holds its own block of the array it reads. -/
theorem feed1_3 (c : Dev nD) (t : Fin cfg1.N) : (feed1 V c).after 3 t = blkB V c 3 t := by dsimp only [feed1]
/-- After step `t` window 4 holds its own block of the array it reads. -/
theorem feed1_4 (c : Dev nD) (t : Fin cfg1.N) : (feed1 V c).after 4 t = blkB V c 4 t := by dsimp only [feed1]
/-- After step `t` window 5 holds its own block of the array it reads. -/
theorem feed1_5 (c : Dev nD) (t : Fin cfg1.N) : (feed1 V c).after 5 t = blkB V c 5 t := by dsimp only [feed1]
/-- After step `t` window 6, the written one, holds the block of the result that is shown there. -/
theorem feed1_6 (c : Dev nD) (t : Fin cfg1.N) : (feed1 V c).after 6 t = shown V c t := by dsimp only [feed1]
/-- What the feed says of the scratch before step `t`. -/
theorem feed1_inv (c : Dev nD) (t : Fin (cfg1.N + 1)) : (feed1 V c).Φ t = inv1 V c t.val := by dsimp only [feed1]

/-- At every point the body finds its six inputs at their blocks. -/
theorem found1 (c : Dev nD) (t : Fin cfg1.N) : (∀ d, (feed1 V c).before 0 t d = blkB V c 0 t) ∧ (∀ d, (feed1 V c).before 1 t d = blkB V c 1 t)
    ∧ (∀ d, (feed1 V c).before 2 t d = blkB V c 2 t) ∧ (∀ d, (feed1 V c).before 3 t d = blkB V c 3 t) ∧ (∀ d, (feed1 V c).before 4 t d = blkB V c 4 t)
    ∧ (∀ d, (feed1 V c).before 5 t d = blkB V c 5 t) := by
  refine ⟨fun d => ?_, fun d => ?_, fun d => ?_, fun d => ?_, fun d => ?_, fun d => ?_⟩
  · exact ((feed1 V c).before_in_eq_fetched 0 rfl (fun _ => rfl) (fun _ _ _ => rfl) (fun t => by rw [feed1_0]; unfold Dat.blockOf blkB; rw [feed1_A]) t d).trans
      (by unfold Dat.fetched Dat.blockOf blkB; rw [feed1_A]; rfl)
  · exact ((feed1 V c).before_in_eq_fetched 1 rfl (fun _ => rfl) (fun _ _ _ => rfl) (fun t => by rw [feed1_1]; unfold Dat.blockOf blkB; rw [feed1_A]) t d).trans
      (by unfold Dat.fetched Dat.blockOf blkB; rw [feed1_A]; rfl)
  · exact ((feed1 V c).before_in_eq_fetched 2 rfl (fun _ => rfl) (fun _ _ _ => rfl) (fun t => by rw [feed1_2]; unfold Dat.blockOf blkB; rw [feed1_A]) t d).trans
      (by unfold Dat.fetched Dat.blockOf blkB; rw [feed1_A]; rfl)
  · exact ((feed1 V c).before_in_eq_fetched 3 rfl (fun _ => rfl) (fun _ _ _ => rfl) (fun t => by rw [feed1_3]; unfold Dat.blockOf blkB; rw [feed1_A]) t d).trans
      (by unfold Dat.fetched Dat.blockOf blkB; rw [feed1_A]; rfl)
  · exact ((feed1 V c).before_in_eq_fetched 4 rfl (fun _ => rfl) (fun _ _ _ => rfl) (fun t => by rw [feed1_4]; unfold Dat.blockOf blkB; rw [feed1_A]) t d).trans
      (by unfold Dat.fetched Dat.blockOf blkB; rw [feed1_A]; rfl)
  · exact ((feed1 V c).before_in_eq_fetched 5 rfl (fun _ => rfl) (fun _ _ _ => rfl) (fun t => by rw [feed1_5]; unfold Dat.blockOf blkB; rw [feed1_A]) t d).trans
      (by unfold Dat.fetched Dat.blockOf blkB; rw [feed1_A]; rfl)

/-- A point of the first pass lays down its block of the first step. -/
theorem laid_one (c : Dev nD) (t : Fin cfg1.N) (ht : t.val < 8) (xs ys : Vec F S2048x4096 .bf16) (h : laid V c t.val xs ys) :
    laid V c (t.val + 1) (overlay xs (turn1 t) (k1_pay2 (slab (V c main_v52) (turn1 t)) (V c main_v50))) ys := by
  refine ⟨fun j hj => ?_, fun j hj => by omega⟩
  unfold overlay
  split
  · next e => unfold step1 stacked; rw [e]
  · next e =>
    have hb : (rowBlock (n := 4096) j).val ≠ t.val % 8 := fun e' => e (Fin.ext e')
    exact h.1 j (by omega)

/-- Once the first pass is over the first step is whole. -/
theorem laid_whole1 (c : Dev nD) (n : ℕ) (hn : 8 ≤ n) (xs ys : Vec F S2048x4096 .bf16) (h : laid V c n xs ys) : xs = step1 V c :=
  funext fun j => h.1 j (by have := (rowBlock (n := 4096) j).isLt; omega)

/-- A point of the second pass lays down its block of the second step. -/
theorem laid_two (c : Dev nD) (t : Fin cfg1.N) (ht : 8 ≤ t.val) (ht' : t.val < 16) (xs ys : Vec F S2048x4096 .bf16) (h : laid V c t.val xs ys) :
    laid V c (t.val + 1) xs (overlay ys (turn1 t) (k1_pay4 (slab (V c main_v52) (turn1 t)) xs (slab (V c main_v50) (turn1 t)))) := by
  refine ⟨fun j hj => h.1 j (by have := (rowBlock (n := 4096) j).isLt; omega), fun j hj => ?_⟩
  unfold overlay
  split
  · next e => rw [laid_whole1 V c t.val ht xs ys h]; unfold step2 stacked; rw [e]
  · next e =>
    have hb : (rowBlock (n := 4096) j).val ≠ t.val % 8 := fun e' => e (Fin.ext e')
    exact h.2 j (by omega)

/-- Once the second pass is over the second step is whole. -/
theorem laid_whole2 (c : Dev nD) (n : ℕ) (hn : 16 ≤ n) (xs ys : Vec F S2048x4096 .bf16) (h : laid V c n xs ys) : ys = step2 V c :=
  funext fun j => h.2 j (by have := (rowBlock (n := 4096) j).isLt; omega)

/-- A point of the third pass leaves both steps as they are. -/
theorem laid_three (c : Dev nD) (n : ℕ) (hn : 16 ≤ n) (xs ys : Vec F S2048x4096 .bf16) (h : laid V c n xs ys) : laid V c (n + 1) xs ys :=
  ⟨fun j _ => congrFun (laid_whole1 V c n (by omega) xs ys h) j, fun j _ => congrFun (laid_whole2 V c n hn xs ys h) j⟩

/-- What the body is called with at point `t`. -/
def ask1 (c : Dev nD) (t : Fin cfg1.N) : sProp 𝕄 :=
  iprop(inv1 V c t.val ∗ (feed1 V c).owesAt () t.castSucc
    ∗ owns (c : Thread nD τ) (st1_0 t) fullShare (blkB V c 0 t)
    ∗ owns (c : Thread nD τ) (st1_1 t) fullShare (blkB V c 1 t)
    ∗ owns (c : Thread nD τ) (st1_2 t) fullShare (blkB V c 2 t)
    ∗ owns (c : Thread nD τ) (st1_3 t) fullShare (blkB V c 3 t)
    ∗ owns (c : Thread nD τ) (st1_4 t) fullShare (blkB V c 4 t)
    ∗ owns (c : Thread nD τ) (st1_5 t) fullShare (blkB V c 5 t)
    ∗ (∃ d, owns (c : Thread nD τ) (st1_6 t) fullShare ((feed1 V c).before 6 t d)))

/-- What it gives back. -/
def give1 (c : Dev nD) (t : Fin cfg1.N) : sProp 𝕄 :=
  iprop(inv1 V c (t.val + 1) ∗ (feed1 V c).owesAt () t.succ
    ∗ owns (c : Thread nD τ) (st1_0 t) fullShare (blkB V c 0 t)
    ∗ owns (c : Thread nD τ) (st1_1 t) fullShare (blkB V c 1 t)
    ∗ owns (c : Thread nD τ) (st1_2 t) fullShare (blkB V c 2 t)
    ∗ owns (c : Thread nD τ) (st1_3 t) fullShare (blkB V c 3 t)
    ∗ owns (c : Thread nD τ) (st1_4 t) fullShare (blkB V c 4 t)
    ∗ owns (c : Thread nD τ) (st1_5 t) fullShare (blkB V c 5 t)
    ∗ (feed1 V c).leavesExact 6 t)

set_option maxHeartbeats 2000000 in
/-- The body of the second call at any point. -/
theorem point1 (c : Dev nD) (t : Fin cfg1.N) :
    ask1 V c t ⊢ wp frame (wpE (defs₀ (F := F)) Variants.none c none) Set.univ (bodyAt1 t) (fun _ => give1 V c t) := by
  obtain ⟨p1, p2, p3, hlive⟩ := passes1 t
  have hturn : (grid1.coords t 1).val = (turn1 t).val := (where1 t).2.2
  unfold ask1 give1 bodyAt1
  rw [show (feed1 V c).owesAt () t.succ = (feed1 V c).owesAt () t.castSucc from rfl]
  rw [show (feed1 V c).leavesExact 6 t = owns (c : Thread nD τ) (st1_6 t) fullShare ((feed1 V c).after 6 t) from by
      unfold Dat.leavesExact; rw [hlive], feed1_6]
  rw [blkB0, blkB1, blkB2, blkB3, blkB4, blkB5]
  unfold inv1 held1 shown
  by_cases h8 : t.val < 8
  · rw [if_pos h8]
    iintro ⟨⟨⟨Hb, ⟨%xs, %ys, %hl, HX, HY, HG⟩⟩, Hg⟩, Ho, H0, H1, H2, H3, H4, H5, ⟨%d6, H6⟩⟩
    iapply (pass_one c (grid1.coords t) _ _ _ _ _ _ _ _ _ _ _ _ _ _ _ (Memref.isWhole_whole cc1_scratch0) _ (Memref.isWhole_whole cc1_scratch1) _ (Memref.isWhole_whole cc1_scratch2)
      (p1.mpr h8) (fun h => by have := p2.mp h; omega) (fun h => by have := p3.mp h; omega) (turn1 t) hturn (slab (V c main_v52) (turn1 t)) (V c main_v50) xs Set.univ _)
    isplitl [H0]; · iexact H0
    isplitl [H1]; · iexact H1
    isplitl [H6]; · iexists _; iexact H6
    isplitl [HX]; · iexact HX
    iintro ⟨H0, H1, H6, HX⟩
    isplitl [Hb HX HY HG Hg]
    · isplitl [Hb HX HY HG]
      · isplitl [Hb]; · iexact Hb
        iexists _; iexists _
        isplitr; · ipureintro; exact laid_one V c t h8 xs ys hl
        isplitl [HX]; · iexact HX
        isplitl [HY]; · iexact HY
        iexact HG
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  rw [if_neg h8]
  by_cases h16 : t.val < 16
  · rw [if_pos h16]
    iintro ⟨⟨⟨Hb, ⟨%xs, %ys, %hl, HX, HY, HG⟩⟩, Hg⟩, Ho, H0, H1, H2, H3, H4, H5, ⟨%d6, H6⟩⟩
    iapply (pass_two c (grid1.coords t) _ _ _ _ _ _ _ _ _ _ _ _ _ _ _ (Memref.isWhole_whole cc1_scratch0) _ (Memref.isWhole_whole cc1_scratch1) _ (Memref.isWhole_whole cc1_scratch2)
      (fun h => h8 (p1.mp h)) (p2.mpr ⟨by omega, h16⟩) (fun h => by have := p3.mp h; omega) (turn1 t) hturn (slab (V c main_v52) (turn1 t)) (V c main_v50) xs ys Set.univ _)
    isplitl [H0]; · iexact H0
    isplitl [H1]; · iexact H1
    isplitl [H6]; · iexists _; iexact H6
    isplitl [HX]; · iexact HX
    isplitl [HY]; · iexact HY
    iintro ⟨H0, H1, H6, HX, HY⟩
    isplitl [Hb HX HY HG Hg]
    · isplitl [Hb HX HY HG]
      · isplitl [Hb]; · iexact Hb
        iexists _; iexists _
        isplitr; · ipureintro; exact laid_two V c t (by omega) h16 xs ys hl
        isplitl [HX]; · iexact HX
        isplitl [HY]; · iexact HY
        iexact HG
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  rw [if_neg h16]
  iintro ⟨⟨⟨Hb, ⟨%xs, %ys, %hl, HX, HY, HG⟩⟩, Hg⟩, Ho, H0, H1, H2, H3, H4, H5, ⟨%d6, H6⟩⟩
  iapply (pass_three c (grid1.coords t) _ _ _ _ _ _ _ _ _ _ _ _ _ _ _ (Memref.isWhole_whole cc1_scratch0) _ (Memref.isWhole_whole cc1_scratch1) _ (Memref.isWhole_whole cc1_scratch2)
    (fun h => h8 (p1.mp h)) (fun h => by have := p2.mp h; omega) (p3.mpr (by omega)) (turn1 t) hturn (slab (V c main_v52) (turn1 t)) (V c main_v50)
    (V c main_v33) (V c main_v38) (V c main_v41) (V c main_v47) xs ys Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HX]; · iexact HX
  isplitl [HY]; · iexact HY
  isplitl [HG]; · iexact HG
  iintro ⟨H0, H1, H2, H3, H4, H5, H6, HX, HY, HG⟩
  isplitl [Hb HX HY HG Hg]
  · isplitl [Hb HX HY HG]
    · isplitl [Hb]; · iexact Hb
      iexists _; iexists _
      isplitr; · ipureintro; exact laid_three V c t.val (by omega) xs ys hl
      isplitl [HX]; · iexact HX
      isplitl [HY]; · iexact HY
      iexact HG
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [laid_whole1 V c t.val (by omega) xs ys hl, laid_whole2 V c t.val (by omega) xs ys hl]
  unfold answer
  iexact H6

/-- The row of the body table the pipeline calls at point `t`. -/
theorem row1 (t : Fin cfg1.N) : defs₀ (F := F) .tc cfg1.body (cfg1.bodyArgs t (cfg1.slots t)) = bodyAt1 t := by
  unfold defs₀; rw [Defs.onTc_tc]

/-- The obligation of the second call's body, at every point. -/
theorem body1 (c : Dev nD) : BodyObligation (feed1 (F := F) V c) (defs₀ (F := F)) Variants.none () Set.univ := fun t => by
  rw [bigSep_W1, bigSep_W1, row1]
  refine triple_restated (point1 V c t) rfl ?_ fun _ => .rfl
  unfold ask1
  obtain ⟨e0, e1, e2, e3, e4, e5⟩ := found1 V c t
  simp only [e0, e1, e2, e3, e4, e5]
  rw [feed1_inv, show t.castSucc.val = t.val from rfl]
  iintro ⟨HΦ, Ho, ⟨%d0, H0⟩, ⟨%d1, H1⟩, ⟨%d2, H2⟩, ⟨%d3, H3⟩, ⟨%d4, H4⟩, ⟨%d5, H5⟩, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- A result entry is in the block a point writes exactly when its row block has that turn. -/
theorem here1 (t : Fin cfg1.N) (j : S2048x10.Idx) (h : rowBlock (n := 10) j = turn1 t) :
    ((cfg1.win 6).blk t).view.emb (rowPlace (n := 10) j) = j := by
  have hb : (j 0).val / 256 = t.val % 8 := congrArg Fin.val h
  funext a
  apply Fin.ext
  match a with
  | ⟨0, _⟩ =>
    refine (Pipeline.Window.rect_emb_val win1_6 t _ 0).trans ?_
    rw [congrFun (where1 t).2.1 0]
    show t.val % 8 * 256 + (j 0).val % 256 = (j 0).val
    omega
  | ⟨1, _⟩ =>
    refine (Pipeline.Window.rect_emb_val_of_index_zero win1_6 t 1 (congrFun (where1 t).2.1 1) _).trans ?_
    rfl

/-- Conversely the block of another turn leaves the entry alone. -/
theorem away1 (t : Fin cfg1.N) (j : S2048x10.Idx) (h : rowBlock (n := 10) j ≠ turn1 t) : j ∉ ((cfg1.win 6).blk t).view.setOn Finset.univ := by
  rw [View.setOn_univ]
  intro hm
  obtain ⟨y, hy⟩ := View.exists_emb_of_mem_set _ hm
  apply h
  have h0 : (y 0).val < 256 := (y 0).isLt
  have e := (Pipeline.Window.rect_emb_val win1_6 t y 0)
  rw [congrFun (where1 t).2.1 0] at e
  have e' : (j 0).val = t.val % 8 * 256 + (y 0).val := by rw [← hy]; exact e
  exact Fin.ext (by show (j 0).val / 256 = t.val % 8; omega)

/-- After the points below `n`, the entries whose third pass is over hold the result. -/
theorem settled1 (c : Dev nD) : ∀ n : ℕ, n ≤ 24 → ∀ j : S2048x10.Idx, (rowBlock (n := 10) j).val + 16 < n →
    (feed1 V c).arrAt 6 n j = stacked (answer V c) j
  | 0, _, j, h => absurd h (Nat.not_lt_zero _)
  | n + 1, hn, j, h => by
    have hN : cfg1.N = 24 := N_1
    have hlt : n < cfg1.N := by omega
    rw [(feed1 V c).arrAt_succ_apply, dif_pos hlt, if_pos (flush1_6 ⟨n, hlt⟩)]
    by_cases hb : rowBlock (n := 10) j = turn1 ⟨n, hlt⟩
    · have hv : (rowBlock (n := 10) j).val = n % 8 := congrArg Fin.val hb
      conv_lhs => rw [← here1 ⟨n, hlt⟩ j hb]
      rw [View.write_emb_of_mem _ _ (Finset.mem_univ _)]
      show (feed1 V c).after 6 ⟨n, hlt⟩ (rowPlace (n := 10) j) = _
      rw [feed1_6]
      unfold shown stacked
      rw [if_neg (by show ¬ n < 8; omega), if_neg (by show ¬ n < 16; omega), hb]
    · have hv : (rowBlock (n := 10) j).val ≠ n % 8 := fun e => hb (Fin.ext e)
      rw [View.write_of_not_mem _ _ _ (away1 ⟨n, hlt⟩ j hb)]
      exact settled1 c n (by omega) j (by omega)

/-- The second call leaves the whole result in its result array. -/
theorem final1 (c : Dev nD) : (feed1 V c).arrAt 6 cfg1.N = stacked (answer V c) := by
  have hN : cfg1.N = 24 := N_1
  funext j
  exact settled1 V c cfg1.N (by omega) j (by have := (rowBlock (n := 10) j).isLt; omega)

end Cert.KernelIdeal.Sgcn

end
-- ==== Proof.Sgcn.Whole.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.WordCmp
public import Idealize.ShloMosaic.Lib.VecWindow
public import proofs.«01_k».proof.Proof.Gen.KernelIdeal.Regions
public import proofs.«01_k».proof.Proof.Sgcn.First
public import proofs.«01_k».proof.Proof.Sgcn.Second

@[expose] public section

set_option maxRecDepth 16384

noncomputable section

namespace Cert.KernelIdeal.Sgcn

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The program's arguments. -/
abbrev argRefs : List (Ref sig .tc) := [main_arg0, main_arg1, main_arg2, main_arg3, main_arg4, main_arg5, main_arg6, main_arg7, main_arg8, main_arg9]

variable (m : (ℓ : Loc nD τ sig) → Buf (Elt F) ℓ) (ρ : Dev nD → PrngReg)

/-- A core's buffers at launch. -/
abbrev atStart (c : Dev nD) : Valuation τ sig (Elt F) := fun b => m (c, b)
/-- After the host stretch before the first call. -/
def atFirst (c : Dev nD) : Valuation τ sig (Elt F) := StableHlo.after hostOps0 (atStart m c)
/-- The same, at the references the calls see. -/
abbrev sawFirst (c : Dev nD) (b : Ref sig .tc) : Buf (Elt F) ((c : Thread nD τ).loc b) := atFirst m c b
/-- After the first call: its result array holds the first layer. -/
def pastFirst (c : Dev nD) : Valuation τ sig (Elt F) := Function.update (atFirst m c) main_v50 (stacked (layer1 (sawFirst m) c))
/-- The same, at the references the calls see. -/
abbrev leftFirst (c : Dev nD) (b : Ref sig .tc) : Buf (Elt F) ((c : Thread nD τ).loc b) := pastFirst m c b
/-- After the host stretch between the calls. -/
def atSecond (c : Dev nD) : Valuation τ sig (Elt F) := StableHlo.after hostOps1 (pastFirst m c)
/-- The same, at the references the calls see. -/
abbrev sawSecond (c : Dev nD) (b : Ref sig .tc) : Buf (Elt F) ((c : Thread nD τ).loc b) := atSecond m c b
/-- After the second call: its result array holds the kernel's result. -/
def atEnd (c : Dev nD) : Valuation τ sig (Elt F) := Function.update (atSecond m c) main_v53 (stacked (answer (sawSecond m) c))
/-- The same, at the references the calls see. -/
abbrev leftSecond (c : Dev nD) (b : Ref sig .tc) : Buf (Elt F) ((c : Thread nD τ).loc b) := atEnd m c b

/-- The first call changes its result array only. -/
theorem pastFirst_of (c : Dev nD) (r : Ref sig .tc) (h : r ≠ main_v50) : pastFirst m c r = atFirst m c r := by
  unfold pastFirst
  exact Function.update_of_ne (StableHlo.devRef_ne_of_ne h) _ _
/-- The second call changes its result array only. -/
theorem atEnd_of (c : Dev nD) (r : Ref sig .tc) (h : r ≠ main_v53) : atEnd m c r = atSecond m c r := by
  unfold atEnd
  exact Function.update_of_ne (StableHlo.devRef_ne_of_ne h) _ _
/-- The first layer's array after the first call. -/
theorem pastFirst_v50 (c : Dev nD) : pastFirst m c main_v50 = stacked (layer1 (sawFirst m) c) := by
  unfold pastFirst; exact Function.update_self _ _ _
/-- The result array at the end. -/
theorem atEnd_v53 (c : Dev nD) : atEnd m c main_v53 = stacked (answer (sawSecond m) c) := by
  unfold atEnd; exact Function.update_self _ _ _
/-- The host stretch between the calls changes its own results only. -/
theorem atSecond_of (c : Dev nD) (r : Ref sig .tc) (h : r ∉ hostOps1_W) : atSecond m c r = pastFirst m c r :=
  StableHlo.after_of_writes_sub hostOps1 _ hostOps1_writes h
/-- The host stretch before the first call changes its own results only. -/
theorem atFirst_of (c : Dev nD) (r : Ref sig .tc) (h : r ∉ hostOps0_W) : atFirst m c r = atStart m c r :=
  StableHlo.after_of_writes_sub hostOps0 _ hostOps0_writes h

/-- Nothing on the way writes an argument. -/
theorem args_kept (c : Dev nD) : ∀ r ∈ argRefs, atEnd m c (Proc.devRef .tc r) = m ((c : Thread nD τ).loc r) := fun r hr => by
  have h0 : ∀ r ∈ argRefs, r ≠ main_v53 ∧ r ∉ hostOps1_W ∧ r ≠ main_v50 ∧ r ∉ hostOps0_W := by decide +kernel
  obtain ⟨a, b, d, e⟩ := h0 r hr
  exact (atEnd_of m c r a).trans ((atSecond_of m c r b).trans ((pastFirst_of m c r d).trans (atFirst_of m c r e)))

/-- At the first call's end its arrays hold what the valuation says. -/
theorem arrays0 (c : Dev nD) (w : Fin cfg0.W) : (feed0 (sawFirst m) c).arrAt w cfg0.N = leftFirst m c (Pipeline.arrRef spec0 w) := by
  have hio : ∀ w : Fin cfg0.W, w = 4 ∨ ((cfg0.win w).isOut = false ∧ Pipeline.arrRef spec0 w ≠ main_v50) := by decide +kernel
  rcases hio w with rfl | ⟨hin, hne⟩
  · exact (final0 (sawFirst m) c).trans (pastFirst_v50 m c).symm
  · exact ((feed0 (sawFirst m) c).arrAt_in w hin _).trans ((feed0_A (sawFirst m) c w).trans (pastFirst_of m c (Pipeline.arrRef spec0 w) hne).symm)
/-- And every other buffer is as the call found it. -/
theorem others0 (c : Dev nD) : ∀ b, b ∉ Finset.univ.image (Pipeline.arrRef spec0) → leftFirst m c b = sawFirst m c b :=
  fun b hb => pastFirst_of m c b fun e => hb (Finset.mem_image.mpr ⟨4, Finset.mem_univ _, e.symm⟩)
/-- At the second call's end its arrays hold what the valuation says. -/
theorem arrays1 (c : Dev nD) (w : Fin cfg1.W) : (feed1 (sawSecond m) c).arrAt w cfg1.N = leftSecond m c (Pipeline.arrRef spec1 w) := by
  have hio : ∀ w : Fin cfg1.W, w = 6 ∨ ((cfg1.win w).isOut = false ∧ Pipeline.arrRef spec1 w ≠ main_v53) := by decide +kernel
  rcases hio w with rfl | ⟨hin, hne⟩
  · exact (final1 (sawSecond m) c).trans (atEnd_v53 m c).symm
  · exact ((feed1 (sawSecond m) c).arrAt_in w hin _).trans ((feed1_A (sawSecond m) c w).trans (atEnd_of m c (Pipeline.arrRef spec1 w) hne).symm)
/-- And every other buffer is as the call found it. -/
theorem others1 (c : Dev nD) : ∀ b, b ∉ Finset.univ.image (Pipeline.arrRef spec1) → leftSecond m c b = sawSecond m c b :=
  fun b hb => atEnd_of m c b fun e => hb (Finset.mem_image.mpr ⟨6, Finset.mem_univ _, e.symm⟩)

/-- The proof data of the two calls. -/
def feeds : (p : Fin 2) → (c : Dev nD) → Dat τ (Elt F) Unit ℕ (UR sig nD τ) ℕ (Pipeline.pin (pcfgs (F := F)) adm p) c
  | ⟨0, _⟩ => fun c => feed0 (sawFirst m) c
  | ⟨1, _⟩ => fun c => feed1 (sawSecond m) c

/-- No core owes another anything. -/
abbrev lev : GSem nD τ sig → Finset Unit := fun _ => ∅
/-- So no level is assigned either. -/
abbrev rank : GSem nD τ sig → Unit → ℕ := fun _ _ => 0
/-- What rides along beside the buffers: the generator register and that nothing is owed. -/
abbrev along (c : Dev nD) : sProp 𝕄 := iprop((∃ r, prngReg c r) ∗ ∃ W, owes (c : Thread nD τ) (0 : CellTallies nD τ sig Unit) W)
/-- A core's thread state between two parts of the program. -/
abbrev between (W : Dev nD → Valuation τ sig (Elt F)) (c : Dev nD) : sProp 𝕄 := iprop(StableHlo.held (c : Thread nD τ) (Pipeline.ucRefs τ sig) (W c) ∗ along c)
/-- The last thread state. -/
abbrev over (c : Dev nD) : sProp 𝕄 := iprop(StableHlo.held (c : Thread nD τ) (Pipeline.ucRefs τ sig) (atEnd m c) ∗ ∃ r, prngReg c r)
/-- A host stretch as a part of the program. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none lev rank :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W along

/-- The first call opens from its scoped buffers and the generator register. -/
theorem open0 (c : Dev nD) : iprop((∃ r, prngReg c r) ∗ Pipeline.scopedRest spec0 c) ⊢ inv0 (F := F) (sawFirst m) c 0 := by
  rw [rest0]; unfold inv0 held0
  iintro ⟨Hp, HS, Hb⟩
  isplitl [HS Hb]
  · isplitl [HS]; · iexact HS
    iexact Hb
  iexact Hp
/-- And gives them back at its end. -/
theorem close0 (c : Dev nD) : inv0 (F := F) (sawFirst m) c cfg0.N ⊢ iprop((∃ r, prngReg c r) ∗ Pipeline.scopedRest spec0 c) := by
  rw [rest0, show cfg0.N = 8 + 1 from N_0]; unfold inv0 held0
  iintro ⟨⟨HS, Hb⟩, Hp⟩
  isplitl [Hp]; · iexact Hp
  isplitl [HS]; · iexists _; iexact HS
  iexact Hb
/-- The second call opens from its scoped buffers and the generator register. -/
theorem open1 (c : Dev nD) : iprop((∃ r, prngReg c r) ∗ Pipeline.scopedRest spec1 c) ⊢ inv1 (F := F) (sawSecond m) c 0 := by
  rw [rest1]; unfold inv1 held1 beside1
  iintro ⟨Hp, B0, B1, B2, B3, B4, B5, B6, ⟨%xs, HX⟩, ⟨%ys, HY⟩, HG⟩
  isplitr [Hp]
  · isplitr [HX HY HG]
    · isplitl [B0]; · iexact B0
      isplitl [B1]; · iexact B1
      isplitl [B2]; · iexact B2
      isplitl [B3]; · iexact B3
      isplitl [B4]; · iexact B4
      isplitl [B5]; · iexact B5
      iexact B6
    iexists xs; iexists ys
    isplitr; · ipureintro; exact ⟨fun j h => absurd h (Nat.not_lt_zero _), fun j h => absurd h (Nat.not_lt_zero _)⟩
    isplitl [HX]; · iexact HX
    isplitl [HY]; · iexact HY
    iexact HG
  iexact Hp
/-- And gives them back at its end. -/
theorem close1 (c : Dev nD) (n : ℕ) : inv1 (F := F) (sawSecond m) c n ⊢ iprop((∃ r, prngReg c r) ∗ Pipeline.scopedRest spec1 c) := by
  rw [rest1]; unfold inv1 held1 beside1
  iintro ⟨⟨⟨B0, B1, B2, B3, B4, B5, B6⟩, ⟨%xs, %ys, -, HX, HY, HG⟩⟩, Hp⟩
  isplitl [Hp]; · iexact Hp
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [HX]; · iexists _; iexact HX
  isplitl [HY]; · iexists _; iexact HY
  iexact HG

set_option backward.isDefEq.respectTransparency.types false in
/-- The first call as a part of the program. -/
def call0 : Pipeline.RegionSeg (pcfgs (F := F)) adm (feeds m) () defs₀ Variants.none lev rank 0 where
  win := launch0.win.to₀
  block_pos := launch0.block_pos
  stage_whole := launch0.stage_whole
  K := PEmpty
  osem k := k.elim
  ho := Pipeline.OwnSemFacts.none _
  hbody c := (body0 (sawFirst m) c).loose
  hwaits := Pipeline.hwaits_of_owed_zero _ _ _ _ lev rank 0 fun _ _ => rfl
  pre := between (atFirst m)
  post := between (pastFirst m)
  X c := iprop(∃ r, prngReg c r)
  Y c := iprop(∃ r, prngReg c r)
  Z c := Pipeline.unscopedRest (Ix := Unit) (Name := ℕ) (U := UR sig nD τ) (Lvl := ℕ) spec0 c (sawFirst m c)
  hentry c := by
    rw [Pipeline.ownSems0_none]
    have hsplit := Pipeline.arrays_of_unscopedBufs (p := 0) (pcfgs (F := F)) adm (feeds m) launch0.win launch0.arr_whole c
      ((feeds m 0 c).share_full fun _ => rfl) (sawFirst m c) (feed0_A (sawFirst m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (feeds m 0 c).Φ 0 = inv0 (sawFirst m) c 0 from rfl]
    iintro ⟨Hp, -, Hr⟩
    iapply (open0 m c)
    isplitl [Hp]; · iexact Hp
    iexact Hr
  hout c := by
    rw [Pipeline.ownSems0_none, show (feeds m 0 c).Φ (Fin.last _) = inv0 (sawFirst m) c cfg0.N from rfl]
    iintro HΦ
    ihave H := (close0 m c) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (feeds m) ((feeds m 0 c).share_full fun _ => rfl)
      (sawFirst m c) (leftFirst m c) ((feeds m 0 c).arrAt · cfg0.N) (arrays0 m c) (others0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a part of the program. -/
def call1 : Pipeline.RegionSeg (pcfgs (F := F)) adm (feeds m) () defs₀ Variants.none lev rank 1 where
  win := launch1.win.to₀
  block_pos := launch1.block_pos
  stage_whole := launch1.stage_whole
  K := PEmpty
  osem k := k.elim
  ho := Pipeline.OwnSemFacts.none _
  hbody c := (body1 (sawSecond m) c).loose
  hwaits := Pipeline.hwaits_of_owed_zero _ _ _ _ lev rank 1 fun _ _ => rfl
  pre := between (atSecond m)
  post c := iprop(over m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (sawSecond m c)
  hentry c := by
    rw [Pipeline.ownSems0_none]
    have hsplit := Pipeline.arrays_of_unscopedBufs (p := 1) (pcfgs (F := F)) adm (feeds m) launch1.win launch1.arr_whole c
      ((feeds m 1 c).share_full fun _ => rfl) (sawSecond m c) (feed1_A (sawSecond m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (feeds m 1 c).Φ 0 = inv1 (sawSecond m) c 0 from rfl]
    iintro ⟨Hp, -, Hr⟩
    iapply (open1 m c)
    isplitl [Hp]; · iexact Hp
    iexact Hr
  hout c := by
    rw [Pipeline.ownSems0_none, show (feeds m 1 c).Φ (Fin.last _) = inv1 (sawSecond m) c cfg1.N from rfl]
    iintro HΦ
    ihave H := (close1 m c cfg1.N) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (feeds m) ((feeds m 1 c).share_full fun _ => rfl)
      (sawSecond m c) (leftSecond m c) ((feeds m 1 c).arrAt · cfg1.N) (arrays1 m c) (others1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four parts in order. -/
abbrev parts : List (Pipeline.Seg (pcfgs (F := F)) adm (feeds m) () defs₀ Variants.none lev rank) :=
  [.host (stretch hostOps0 hostOps0_sub hostOps0_fresh (atStart m)), .region (call0 m),
    .host (stretch hostOps1 hostOps1_sub hostOps1_fresh (pastFirst m)), .region (call1 m)]

/-- The program runs its four parts. -/
theorem main_parts (c : Dev nD) : main (F := F) c = Pipeline.Seg.run (parts m) := (main_chain c).trans (by chain_rfl)

/-- An unscoped reference is among those the thread state holds. -/
theorem among (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every fair run of the program ends, with each unscoped buffer at the last valuation and every counter at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = atEnd m c b) ∧ r.2.sem = fun _ => 0) :=
  Pipeline.θ_run_regions_kit_sems (pcfgs (F := F)) adm (feeds m) () cellOf_inj emb₁ defs₀ Variants.none lev rank m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (atStart m)) (Tₙ := over m)
    (hch := ⟨fun _ => .rfl, fun _ => .rfl, fun _ => .rfl, fun _ => .rfl, fun _ => .rfl⟩)
    (hinit := by
      refine Pipeline.initEach lev rank fun c => ?_
      rw [show unscopedBufs c (fun b => m ((c : Thread nD τ).loc b)) = StableHlo.held (c : Thread nD τ) (Pipeline.ucRefs τ sig) (atStart m c)
        from Pipeline.unscopedBufs_held c (atStart m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h hz => ⟨h, funext fun g => hz g (.inr (regions_no_unscoped g.2))⟩)

/-- The result buffer holds the kernel's result at the end of every fair run. -/
theorem ends_value : θ_run defs (onTc (τ := τ) (main (F := F))) ⟨m, fun _ => 0, ρ⟩ (fun r =>
      ∀ c : Dev nD, r.2.mem ((c.tc : Thread nD τ).loc main_v53) = stacked (answer (sawSecond m) c)
        ∧ ∀ a ∈ argRefs, r.2.mem ((c.tc : Thread nD τ).loc a) = m ((c.tc : Thread nD τ).loc a)) :=
  (θ_run defs _ _).mono (fun r h c => ⟨(h.1 c _ (among main_v53 (by decide))).trans (atEnd_v53 m c),
    fun a ha => (h.1 c _ (among a ((by decide +kernel : ∀ a ∈ argRefs, ¬ (Proc.devRef .tc a : DevRef τ sig).isScoped) a ha))).trans (args_kept m c a ha)⟩) (ends m ρ)

/-- The arguments are unchanged and the counters are zero at the end of every fair run. -/
theorem ends_frame : θ_run defs (onTc (τ := τ) (main (F := F))) ⟨m, fun _ => 0, ρ⟩ (fun r => (∀ c : Dev nD,
      ∀ a ∈ argRefs, r.2.mem ((c.tc : Thread nD τ).loc a) = m ((c.tc : Thread nD τ).loc a)) ∧ r.2.sem = fun _ => 0) :=
  (θ_run defs _ _).mono (fun r h => ⟨fun c a ha => (h.1 c _ (among a
    ((by decide +kernel : ∀ a ∈ argRefs, ¬ (Proc.devRef .tc a : DevRef τ sig).isScoped) a ha))).trans (args_kept m c a ha), h.2⟩) (ends m ρ)

end Cert.KernelIdeal.Sgcn

end
-- ==== Proof.Sgcn.Same.lean ====
module
public import proofs.«01_k».proof.Proof.Gen.Kernel
public import proofs.«01_k».proof.Proof.Gen.KernelIdeal

@[expose] public section

set_option maxRecDepth 100000
set_option maxHeartbeats 2000000

/-! The word-for-word program and its idealization differ in nothing but their names here: no rewrite was asked for. -/

namespace Cert.Proof.Same

open Idealize.ShloMosaic

variable {F : FTy → Type} [FloatOps F]

/-- The two programs have one entry. -/
theorem same_main (c : Dev Cert.Kernel.nD) : Cert.Kernel.main (F := F) c = Cert.KernelIdeal.main (F := F) c := by rfl

/-- The two calls' bodies are the same on both sides. -/
theorem same_bodies : Cert.Kernel.defs₀ (F := F) = Cert.KernelIdeal.defs₀ (F := F) := by
  funext pr l a
  cases pr with
  | tc => match l, a with
    | 0, (t, s) => rfl
    | 1, (t, s) => rfl
  | scScalar n => rfl
  | scVector n k => rfl

/-- So are the pipelined definitions around them. -/
theorem same_defs : Cert.Kernel.defs (F := F) = Cert.KernelIdeal.defs (F := F) := by
  unfold Cert.Kernel.defs Cert.KernelIdeal.defs
  funext pr l a
  cases pr with
  | tc => match l, a with
    | .inl l, a => exact congrArg Pipeline.liftProg (congrFun (congrFun (congrFun same_bodies _) _) _)
    | .inr (.entry p), a =>
      match p, a with
      | 0, a => rfl
      | 1, a => rfl
    | .inr (.pipe p), a =>
      match p, a with
      | 0, a => rfl
      | 1, a => rfl
  | scScalar n => match l, a with
    | .inl l, a => rfl
    | .inr (.entry p), a => rfl
    | .inr (.pipe p), a => rfl
  | scVector n k => match l, a with
    | .inl l, a => rfl
    | .inr (.entry p), a => rfl
    | .inr (.pipe p), a => rfl

end Cert.Proof.Same
-- ==== Proof.Sgcn.Frames.lean ====
module
public import proofs.«01_k».proof.Defs
public import proofs.«01_k».proof.Proof.Gen.ReferenceIdeal
public import proofs.«01_k».proof.Proof.Gen.ReferenceIdeal.Run
public import proofs.«01_k».proof.Proof.Sgcn.Whole
public import proofs.«01_k».proof.Proof.Sgcn.Same

@[expose] public section

set_option maxRecDepth 16384

noncomputable section

/-! The frames: every fair run ends with the arguments unchanged and every counter at zero. -/

namespace Cert.Proof.Frames

open Idealize.ShloMosaic Idealize.SL.Sem

/-- The idealized program's frame. -/
theorem idealized : Cert.quiescent_KernelIdeal := fun m ρ _ =>
  (θ_run Cert.KernelIdeal.defs _ _).mono (fun r h => ⟨fun c => by
    have g := h.1 c
    exact ⟨g _ (by decide), g _ (by decide), g _ (by decide), g _ (by decide), g _ (by decide), g _ (by decide),
      g _ (by decide), g _ (by decide), g _ (by decide), g _ (by decide)⟩, h.2⟩)
    (Cert.KernelIdeal.Sgcn.ends_frame (F := Ideal) m ρ)

set_option maxHeartbeats 4000000 in
/-- The word-for-word program's frame, from the same run: the two programs are one. -/
theorem wordwise : Cert.quiescent_Kernel := by
  intro m ρ _
  rw [show Cert.Kernel.main (F := Bits) = Cert.KernelIdeal.main (F := Bits) from funext fun c => Same.same_main c, Same.same_defs (F := Bits)]
  exact (θ_run Cert.KernelIdeal.defs _ _).mono (fun r h => ⟨fun c => by
    have g := h.1 c
    exact ⟨g _ (by decide), g _ (by decide), g _ (by decide), g _ (by decide), g _ (by decide), g _ (by decide),
      g _ (by decide), g _ (by decide), g _ (by decide), g _ (by decide)⟩, h.2⟩)
    (Cert.KernelIdeal.Sgcn.ends_frame (F := Bits) m ρ)

/-- The reference's frame: it declares no counter at all. -/
theorem reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Frames
-- ==== Proof.Sgcn.HostRead.lean ====
/-
  What the host stretches of the kernel leave in the arrays that the two calls read, at an index, as terms of the arguments: the two matrices, the weights spread over the
  rows of an identity, the repeated biases, and the two final linear maps multiplied out.
-/
module

public import proofs.«01_k».proof.Proof.Sgcn.Whole
public import Idealize.ShloMosaic.Lib.StableHlo.ReadAt
public import Idealize.ShloMosaic.Lib.Pointwise

@[expose] public section

set_option maxRecDepth 16384

noncomputable section

namespace Cert.KernelIdeal.Sgcn

open Cert.KernelIdeal.Gen
open Idealize.ShloMosaic Idealize.ShloMosaic.TcCoe

/-- A comparison of two small indices, as a number: one where they agree and zero elsewhere. -/
theorem eye_at (a b : ℕ) (ha : a < 2 ^ 32) (hb : b < 2 ^ 32) :
    (FloatOps.uitofp FTy.bf16 (IntOp.cmpi CmpIPredicate.eq (IntOp.addi (BitVec.ofNat 32 a) 0#32) (BitVec.ofNat 32 b)) : Ideal .bf16) =
      if a = b then (1 : EReal) else 0 := by
  have h0 : IntOp.addi (BitVec.ofNat 32 a) 0#32 = BitVec.ofNat 32 a := BitVec.add_zero _
  have h1 : (BitVec.ofNat 32 a == BitVec.ofNat 32 b) = decide (a = b) := by
    rw [Bool.eq_iff_iff, beq_iff_eq, decide_eq_true_iff]
    constructor
    · intro h
      have := congrArg BitVec.toNat h
      rwa [BitVec.toNat_ofNat, BitVec.toNat_ofNat, Nat.mod_eq_of_lt ha, Nat.mod_eq_of_lt hb] at this
    · rintro rfl; rfl
  rw [h0]
  show (((BitVec.ofBool (BitVec.ofNat 32 a == BitVec.ofNat 32 b)).toNat : ℝ) : EReal) = _
  rw [h1]
  by_cases h : a = b
  · simp [h]
  · simp [h]

variable (m : (ℓ : Loc nD τ sig) → Buf (Elt Ideal) ℓ) (c : Dev nD)

/-- The vertex features, as given. -/
def given0 : Vec Ideal S2048x128 .f32 := m ((c.tc : Thread nD τ).loc main_arg0)
/-- The three matrices, as given. -/
def given1 : Vec Ideal S3x2048x2048 .f32 := m ((c.tc : Thread nD τ).loc main_arg1)
/-- The first weights, as given. -/
def given2 : Vec Ideal S32x4 .f32 := m ((c.tc : Thread nD τ).loc main_arg2)
/-- The first bias, as given. -/
def given3 : Vec Ideal S32 .f32 := m ((c.tc : Thread nD τ).loc main_arg3)
/-- The second weights, as given. -/
def given4 : Vec Ideal S32x128 .f32 := m ((c.tc : Thread nD τ).loc main_arg4)
/-- The second bias, as given. -/
def given5 : Vec Ideal S32 .f32 := m ((c.tc : Thread nD τ).loc main_arg5)
/-- The third weights, as given. -/
def given6 : Vec Ideal S512x4096 .f32 := m ((c.tc : Thread nD τ).loc main_arg6)
/-- The third bias, as given. -/
def given7 : Vec Ideal S512 .f32 := m ((c.tc : Thread nD τ).loc main_arg7)
/-- The last weights, as given. -/
def given8 : Vec Ideal S10x512 .f32 := m ((c.tc : Thread nD τ).loc main_arg8)
/-- The last bias, as given. -/
def given9 : Vec Ideal S10 .f32 := m ((c.tc : Thread nD τ).loc main_arg9)

/-- The first weights, spread over the rows of an identity. -/
theorem weights1_at (r : Fin 512) (j : Fin 4096) : (sawFirst m c main_v13 : Vec Ideal S512x4096 .bf16) (ix2 r j) =
    (if r.val % 128 = j.val / 32 then (1 : EReal) else 0) *
      given2 m c (ix2 ⟨j.val % 32, by omega⟩ ⟨r.val / 128, by omega⟩) := by
  rw [← eye_at (r.val % 128) (j.val / 32) (by omega) (by omega)]
  unfold sawFirst atFirst
  simp only [hostOps0]
  after_reads_at
  rfl

/-- The first bias, repeated for each feature column. -/
theorem bias1_at (j : Fin 4096) : (sawFirst m c main_v18 : Vec Ideal S1x4096 .f32) (ix2 0 j) =
    given3 m c (ix1 ⟨j.val % 32, by omega⟩) := by
  unfold sawFirst atFirst
  simp only [hostOps0]
  after_reads_at
  rfl

/-- The second weights, spread over the rows of an identity of four. -/
theorem weights2_at (r : Fin 512) (j : Fin 128) : (sawSecond m c main_v33 : Vec Ideal S512x128 .bf16) (ix2 r j) =
    (if r.val / 32 % 4 = j.val / 32 then (1 : EReal) else 0) *
      given4 m c (ix2 ⟨j.val % 32, by omega⟩ ⟨r.val % 32 * 4 + r.val / 128, by omega⟩) := by
  rw [← eye_at (r.val / 32 % 4) (j.val / 32) (by omega) (by omega)]
  unfold sawSecond
  rw [atSecond_of m c main_v33 (by decide), pastFirst_of m c main_v33 (by decide)]
  unfold atFirst
  simp only [hostOps0]
  after_reads_at
  rfl

/-- The second bias, repeated four times. -/
theorem bias2_at (j : Fin 128) : (sawSecond m c main_v38 : Vec Ideal S1x128 .f32) (ix2 0 j) =
    given5 m c (ix1 ⟨j.val % 32, by omega⟩) := by
  unfold sawSecond
  rw [atSecond_of m c main_v38 (by decide), pastFirst_of m c main_v38 (by decide)]
  unfold atFirst
  simp only [hostOps0]
  after_reads_at
  rfl

/-- The two final weights multiplied out. -/
theorem weights3_at (j : Fin 4096) (o : Fin 10) : (sawSecond m c main_v41 : Vec Ideal S4096x10 .bf16) (ix2 j o) =
    ∑ q : Fin 512, given8 m c (ix2 o q) *
      given6 m c (ix2 q j) := by
  unfold sawSecond
  rw [atSecond_of m c main_v41 (by decide), pastFirst_of m c main_v41 (by decide)]
  unfold atFirst
  simp only [hostOps0]
  after_reads_at
  rfl

/-- The final biases multiplied out, repeated eight times. -/
theorem bias3_at (r : Fin 8) (o : Fin 10) : (sawSecond m c main_v47 : Vec Ideal S8x10 .f32) (ix2 r o) =
    ∑ q : Fin 512, given8 m c (ix2 o q) *
      given7 m c (ix1 q) + given9 m c (ix1 o) := by
  unfold sawSecond
  rw [atSecond_of m c main_v47 (by decide), pastFirst_of m c main_v47 (by decide)]
  unfold atFirst
  simp only [hostOps0]
  after_reads_at
  rfl

/-- The matrix of the first call. -/
theorem matrix1_at (n k : Fin 2048) : (sawFirst m c main_v49 : Vec Ideal S2048x2048 .f32) (ix2 n k) =
    given1 m c (ix3 0 n k) := by
  unfold sawFirst atFirst
  simp only [hostOps0]
  after_reads_at
  rfl

/-- The matrix of the second call. -/
theorem matrix2_at (n k : Fin 2048) : (sawSecond m c main_v52 : Vec Ideal S2048x2048 .f32) (ix2 n k) =
    given1 m c (ix3 2 n k) := by
  unfold sawSecond atSecond
  simp only [hostOps1]
  after_reads_at
  rw [pastFirst_of m c main_arg1 (by decide), atFirst_of m c main_arg1 (by decide)]
  rfl

/-- The feature columns of the first call. -/
theorem columns_eq : (sawFirst m c main_arg0 : Vec Ideal S2048x128 .f32) = given0 m c :=
  atFirst_of m c main_arg0 (by decide)

/-- The array between the calls. -/
theorem between_eq : sawSecond m c main_v50 = stacked (layer1 (sawFirst m) c) :=
  (atSecond_of m c main_v50 (by decide)).trans (pastFirst_v50 m c)

end Cert.KernelIdeal.Sgcn

end
-- ==== Proof.Sgcn.Plain.lean ====
/-
  The mathematics of the kernel on extended reals, away from any program: the four Chebyshev terms of a column, the two graph convolutions, the two forms of the final linear
  maps, and what makes the two forms equal: on real entries a product with a sum is the sum of the products.
-/
module

public import Mathlib.Data.EReal.Operations
public import Mathlib.Algebra.BigOperators.Fin
public import Mathlib.Algebra.BigOperators.Ring.Finset
public import Mathlib.Logic.Equiv.Fin.Basic
public import Mathlib.Tactic.FinCases
public import Mathlib.Tactic.Linarith
public import Mathlib.Tactic.Ring

@[expose] public section

noncomputable section

namespace Cert.Proof.Plain

/-- A matrix of 2048 rows and columns applied to a column. -/
def app (A : Fin 2048 → Fin 2048 → EReal) (t : Fin 2048 → EReal) (n : Fin 2048) : EReal := ∑ k, A n k * t k

/-- One step of the Chebyshev recurrence: twice the matrix applied to the last column, less the one before. -/
def twice (A : Fin 2048 → Fin 2048 → EReal) (u v : Fin 2048 → EReal) (n : Fin 2048) : EReal := 2 * app A u n - v n

/-- The four Chebyshev terms of a column. -/
def cheb (A : Fin 2048 → Fin 2048 → EReal) (t : Fin 2048 → EReal) : Fin 4 → Fin 2048 → EReal :=
  ![t, app A t, twice A (app A t) t, twice A (twice A (app A t) t) (app A t)]

/-- The first graph convolution: channel `c` of vertex `n` in feature column `f`. -/
def first (A : Fin 2048 → Fin 2048 → EReal) (x : Fin 2048 → Fin 128 → EReal) (W : Fin 32 → Fin 4 → EReal) (b : Fin 32 → EReal)
    (n : Fin 2048) (f : Fin 128) (c : Fin 32) : EReal :=
  max (∑ k, cheb A (fun i => x i f) k n * W c k + b c) 0

/-- The second graph convolution, over 32 channels of four terms each. -/
def second (A : Fin 2048 → Fin 2048 → EReal) (y : Fin 2048 → Fin 128 → Fin 32 → EReal) (W : Fin 32 → Fin 128 → EReal) (b : Fin 32 → EReal)
    (n : Fin 2048) (f : Fin 128) (c : Fin 32) : EReal :=
  max (∑ e : Fin 128, cheb A (fun i => y i f ⟨e.val / 4, by omega⟩) ⟨e.val % 4, by omega⟩ n * W c e + b c) 0

/-- The two linear maps one after the other. -/
def headTwo (h : Fin 4096 → EReal) (W1 : Fin 512 → Fin 4096 → EReal) (b1 : Fin 512 → EReal) (W2 : Fin 10 → Fin 512 → EReal) (b2 : Fin 10 → EReal)
    (o : Fin 10) : EReal :=
  ∑ q, (∑ j, h j * W1 q j + b1 q) * W2 o q + b2 o

/-- The two linear maps multiplied out beforehand. -/
def headOne (h : Fin 4096 → EReal) (W1 : Fin 512 → Fin 4096 → EReal) (b1 : Fin 512 → EReal) (W2 : Fin 10 → Fin 512 → EReal) (b2 : Fin 10 → EReal)
    (o : Fin 10) : EReal :=
  ∑ j, h j * (∑ q, W2 o q * W1 q j) + (∑ q, W2 o q * b1 q + b2 o)

/-- The entry is a real number. -/
def IsReal (z : EReal) : Prop := ∃ r : ℝ, z = (r : EReal)

/-- A sum of two reals is real. -/
theorem IsReal.add {a b : EReal} (ha : IsReal a) (hb : IsReal b) : IsReal (a + b) := by
  obtain ⟨p, rfl⟩ := ha
  obtain ⟨q, rfl⟩ := hb
  exact ⟨p + q, by norm_cast⟩

/-- A product of two reals is real. -/
theorem IsReal.mul {a b : EReal} (ha : IsReal a) (hb : IsReal b) : IsReal (a * b) := by
  obtain ⟨p, rfl⟩ := ha
  obtain ⟨q, rfl⟩ := hb
  exact ⟨p * q, by norm_cast⟩

/-- A difference of two reals is real. -/
theorem IsReal.sub {a b : EReal} (ha : IsReal a) (hb : IsReal b) : IsReal (a - b) := by
  obtain ⟨p, rfl⟩ := ha
  obtain ⟨q, rfl⟩ := hb
  exact ⟨p - q, by norm_cast⟩

/-- The larger of two reals is real. -/
theorem IsReal.max {a b : EReal} (ha : IsReal a) (hb : IsReal b) : IsReal (max a b) := by
  rcases max_cases a b with h | h
  · rw [h.1]; exact ha
  · rw [h.1]; exact hb

/-- Zero is real. -/
theorem IsReal.zero : IsReal 0 := ⟨0, by norm_cast⟩

/-- Two is real. -/
theorem IsReal.two : IsReal 2 := ⟨2, by norm_cast⟩

/-- A finite sum of reals is real. -/
theorem IsReal.sum {ι : Type} (s : Finset ι) {f : ι → EReal} (h : ∀ i, IsReal (f i)) : IsReal (∑ i ∈ s, f i) := by
  classical
  induction s using Finset.induction_on with
  | empty => simpa using IsReal.zero
  | insert a s ha ih => rw [Finset.sum_insert ha]; exact (h a).add ih

/-- A real matrix applied to a real column is real. -/
theorem app_real {A : Fin 2048 → Fin 2048 → EReal} {t : Fin 2048 → EReal} (hA : ∀ i k, IsReal (A i k)) (ht : ∀ i, IsReal (t i)) (n : Fin 2048) :
    IsReal (app A t n) := IsReal.sum _ fun k => (hA n k).mul (ht k)

/-- One step of the recurrence keeps reals. -/
theorem twice_real {A : Fin 2048 → Fin 2048 → EReal} {u v : Fin 2048 → EReal} (hA : ∀ i k, IsReal (A i k)) (hu : ∀ i, IsReal (u i)) (hv : ∀ i, IsReal (v i))
    (n : Fin 2048) : IsReal (twice A u v n) := (IsReal.two.mul (app_real hA hu n)).sub (hv n)

/-- The Chebyshev terms of a real column are real. -/
theorem cheb_real {A : Fin 2048 → Fin 2048 → EReal} {t : Fin 2048 → EReal} (hA : ∀ i k, IsReal (A i k)) (ht : ∀ i, IsReal (t i)) (k : Fin 4) (n : Fin 2048) :
    IsReal (cheb A t k n) := by
  fin_cases k
  · exact ht n
  · exact app_real hA ht n
  · exact twice_real hA (app_real hA ht) ht n
  · exact twice_real hA (twice_real hA (app_real hA ht) ht) (app_real hA ht) n

/-- The first convolution of real arrays is real. -/
theorem first_real {A : Fin 2048 → Fin 2048 → EReal} {x : Fin 2048 → Fin 128 → EReal} {W : Fin 32 → Fin 4 → EReal} {b : Fin 32 → EReal}
    (hA : ∀ i k, IsReal (A i k)) (hx : ∀ i f, IsReal (x i f)) (hW : ∀ c k, IsReal (W c k)) (hb : ∀ c, IsReal (b c)) (n : Fin 2048) (f : Fin 128) (c : Fin 32) :
    IsReal (first A x W b n f c) :=
  ((IsReal.sum _ fun k => (cheb_real hA (fun i => hx i f) k n).mul (hW c k)).add (hb c)).max IsReal.zero

/-- The second convolution of real arrays is real. -/
theorem second_real {A : Fin 2048 → Fin 2048 → EReal} {y : Fin 2048 → Fin 128 → Fin 32 → EReal} {W : Fin 32 → Fin 128 → EReal} {b : Fin 32 → EReal}
    (hA : ∀ i k, IsReal (A i k)) (hy : ∀ i f a, IsReal (y i f a)) (hW : ∀ c e, IsReal (W c e)) (hb : ∀ c, IsReal (b c)) (n : Fin 2048) (f : Fin 128) (c : Fin 32) :
    IsReal (second A y W b n f c) :=
  ((IsReal.sum _ fun _ => (cheb_real hA (fun i => hy i f _) _ n).mul (hW c _)).add (hb c)).max IsReal.zero

/-- The sum of reals, read as extended reals. -/
theorem coe_sums {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real entries the two linear maps multiplied out beforehand give what they give one after the other. -/
theorem headOne_eq {h : Fin 4096 → EReal} {W1 : Fin 512 → Fin 4096 → EReal} {b1 : Fin 512 → EReal} {W2 : Fin 10 → Fin 512 → EReal} {b2 : Fin 10 → EReal}
    (hh : ∀ j, IsReal (h j)) (hW1 : ∀ q j, IsReal (W1 q j)) (hb1 : ∀ q, IsReal (b1 q)) (hW2 : ∀ o q, IsReal (W2 o q)) (o : Fin 10) :
    headOne h W1 b1 W2 b2 o = headTwo h W1 b1 W2 b2 o := by
  choose h' eh using hh
  choose W1' eW1 using hW1
  choose b1' eb1 using hb1
  choose W2' eW2 using hW2
  have key : ∑ j, h' j * (∑ q, W2' o q * W1' q j) + ∑ q, W2' o q * b1' q = ∑ q, (∑ j, h' j * W1' q j + b1' q) * W2' o q := by
    simp only [add_mul, Finset.sum_add_distrib, Finset.mul_sum, Finset.sum_mul]
    rw [Finset.sum_comm]
    congr 1
    · exact Finset.sum_congr rfl fun q _ => Finset.sum_congr rfl fun j _ => by ring
    · exact Finset.sum_congr rfl fun q _ => by ring
  unfold headOne headTwo
  simp only [eh, eW1, eb1, eW2, ← EReal.coe_mul, ← EReal.coe_add, ← coe_sums]
  rw [← add_assoc, ← EReal.coe_add, key]

/-- A sum against one row of an identity keeps one entry. -/
theorem sum_pick {M : ℕ} (f : Fin M) (G w e : Fin M → EReal) (he : ∀ u, e u = if u = f then 1 else 0) :
    ∑ u, G u * (e u * w u) = G f * w f := by
  rw [Finset.sum_eq_single f]
  · rw [he, if_pos rfl, one_mul]
  · intro u _ hu
    rw [he, if_neg hu, zero_mul, mul_zero]
  · intro h; exact absurd (Finset.mem_univ _) h

/-- A sum over `K` copies of `M` entries, copy by copy. -/
theorem sum_split {K M N : ℕ} (hN : N = K * M) (G : Fin N → EReal) :
    ∑ r : Fin N, G r = ∑ k : Fin K, ∑ u : Fin M, G ⟨M * k.val + u.val, by
        have hk := k.isLt; have hu := u.isLt; subst hN
        calc M * k.val + u.val < M * k.val + M := by omega
          _ = (k.val + 1) * M := by ring
          _ ≤ K * M := Nat.mul_le_mul_right _ hk⟩ := by
  subst hN
  rw [← finProdFinEquiv.sum_comp, Fintype.sum_prod_type]
  refine Finset.sum_congr rfl fun k _ => Finset.sum_congr rfl fun u _ => congrArg G (Fin.ext ?_)
  simp [finProdFinEquiv, add_comm]

end Cert.Proof.Plain

end
-- ==== Proof.Sgcn.Words.lean ====
/-
  What the words of the two programs' constants and comparisons are as extended reals.
-/
module

public import Idealize.ShloMosaic.Lib.IdealHost
public import Idealize.ShloMosaic.Lib.Pointwise
public import Mathlib.Tactic.NormNum

@[expose] public section

noncomputable section

namespace Cert.Proof.Words

open Idealize.ShloMosaic

/-- The single-precision word of two is two. -/
theorem two32 : Ideal.ofBits .f32 0x40000000#32 = (2 : EReal) := by
  rw [show (2 : EReal) = ((2 : ℝ) : EReal) by norm_cast]
  simp [Ideal.ofBits, Ideal.ieee, -EReal.coe_mul]
  norm_num

/-- The half-width word of two is two. -/
theorem two16 : Ideal.ofBits .bf16 0x4000#16 = (2 : EReal) := by
  rw [show (2 : EReal) = ((2 : ℝ) : EReal) by norm_cast]
  simp [Ideal.ofBits, Ideal.ieee, -EReal.coe_mul]
  norm_num

end Cert.Proof.Words

end

end
-- ==== Proof.Sgcn.KerRead.lean ====
/-
  What the two kernel bodies compute, read at an index as the plain mathematics of Plain.lean.
-/
module

public import proofs.«01_k».proof.Proof.Sgcn.Whole
public import proofs.«01_k».proof.Proof.Sgcn.Plain
public import proofs.«01_k».proof.Proof.Sgcn.Words
public import Idealize.ShloMosaic.Lib.Pointwise

@[expose] public section

set_option maxRecDepth 16384

noncomputable section

namespace Cert.KernelIdeal.Sgcn

open Cert.KernelIdeal.Gen
open Idealize.ShloMosaic Idealize.ShloMosaic.TcCoe
open Cert.Proof

/-- A row of a stacked matrix. -/
theorem stacked_row {α : Type} {w : ℕ} (B : Fin 8 → (⟨2, ![256, w]⟩ : Shape).Idx → α) (n : Fin 2048) (j : Fin w) :
    stacked B (ix2 n j) = B ⟨n.val / 256, by omega⟩ (ix2 ⟨n.val % 256, by omega⟩ j) := by
  unfold stacked rowBlock rowPlace
  congr 1

/-- A row of a block of rows. -/
theorem slab_row {e : EltTy} {w : ℕ} (X : Vec Ideal ⟨2, ![2048, w]⟩ e) (n : Fin 2048) (j : Fin w) (h : n.val / 256 < 8) (h' : n.val % 256 < 256) :
    slab X ⟨n.val / 256, h⟩ (ix2 ⟨n.val % 256, h'⟩ j) = X (ix2 n j) := by
  refine (slab_at X _ _ (ix2 n j) ?_ ?_).symm
  · show n.val = 256 * (n.val / 256) + n.val % 256
    omega
  · rfl

/-- The four terms of the first call at an index. -/
theorem terms_at (l : Vec Ideal S2048x2048 .f32) (x : Vec Ideal S2048x128 .f32) (n : Fin 2048) (k : Fin 4) (f : Fin 128) (h : 128 * k.val + f.val < 512) :
    k0_pay1 l x x (ix2 n ⟨128 * k.val + f.val, h⟩) = Plain.cheb (fun i k => l (ix2 i k)) (fun i => x (ix2 i f)) k n := by
  pointwise [k0_pay1, Words.two32]
  fin_cases k
  · simp [Plain.cheb]
  · simp [Plain.cheb, Plain.app]
  · have a1 : ¬ (256 + f.val < 128) := by omega
    have a2 : ¬ (256 + f.val - 128 < 128) := by omega
    have a3 : 256 + f.val - 128 - 128 = f.val := by omega
    simp [Plain.cheb, Plain.app, Plain.twice, a1, a2, a3]
  · have a1 : ¬ (384 + f.val < 128) := by omega
    have a2 : ¬ (384 + f.val - 128 < 128) := by omega
    have a3 : ¬ (384 + f.val - 128 - 128 < 128) := by omega
    have a4 : 384 + f.val - 128 - 128 - 128 = f.val := by omega
    simp [Plain.cheb, Plain.app, Plain.twice, a1, a2, a3, a4]

/-- One block of the first convolution at an index, from what its operands are there. -/
theorem block1_at (C : Vec Ideal S256x512 .bf16) (P : Vec Ideal S512x4096 .bf16) (B : Vec Ideal S1x4096 .f32) (r : Fin 256) (j : Fin 4096)
    (T w : Fin 4 → EReal) (b : EReal)
    (hT : ∀ (k : Fin 4) (h : 128 * k.val + j.val / 32 < 512), C (ix2 r ⟨128 * k.val + j.val / 32, h⟩) = T k)
    (hP : ∀ (k : Fin 4) (u : Fin 128) (h : 128 * k.val + u.val < 512), P (ix2 ⟨128 * k.val + u.val, h⟩ j) = (if u.val = j.val / 32 then 1 else 0) * w k)
    (hB : B (ix2 0 j) = b) : k0_pay2 C P B (ix2 r j) = max (∑ k, T k * w k + b) 0 := by
  have hj : j.val / 32 < 128 := by omega
  have read : k0_pay2 C P B (ix2 r j) = max (∑ x : Fin 512, C (ix2 r x) * P (ix2 x j) + B (ix2 0 j)) 0 := by
    pointwise [k0_pay2]
  rw [read, hB, Plain.sum_split (K := 4) (M := 128) rfl]
  congr 2
  refine Finset.sum_congr rfl fun k _ => ?_
  simp only [hP]
  rw [Plain.sum_pick (⟨j.val / 32, hj⟩ : Fin 128) (fun u => C (ix2 r ⟨128 * k.val + u.val, _⟩)) (fun _ => w k) (fun u => if u.val = j.val / 32 then 1 else 0)]
  · exact congrArg (· * w k) (hT k _)
  · intro u
    simp only [Fin.ext_iff]

end Cert.KernelIdeal.Sgcn

end
-- ==== Proof.Sgcn.KerRead2.lean ====
/-
  What the second kernel body computes, read at an index as the plain mathematics of Plain.lean.
-/
module

public import proofs.«01_k».proof.Proof.Sgcn.KerRead

@[expose] public section

set_option maxRecDepth 16384

noncomputable section

namespace Cert.KernelIdeal.Sgcn

open Cert.KernelIdeal.Gen
open Idealize.ShloMosaic Idealize.ShloMosaic.TcCoe
open Cert.Proof

/-- The four terms side by side, over one tile of 128 columns, at a row. -/
def ladder (y0 y1 y2 y3 : Vec Ideal S256x4096 .bf16) (q : Fin 32) (r : Fin 256) (x : Fin 512) : EReal :=
  if h : x.val < 128 then y0 (ix2 r ⟨128 * q.val + x.val, by omega⟩)
  else if h1 : x.val - 128 < 128 then y1 (ix2 r ⟨128 * q.val + (x.val - 128), by omega⟩)
  else if h2 : x.val - 128 - 128 < 128 then y2 (ix2 r ⟨128 * q.val + (x.val - 128 - 128), by omega⟩)
  else y3 (ix2 r ⟨128 * q.val + (x.val - 128 - 128 - 128), by omega⟩)

/-- The four terms side by side, by term and column. -/
theorem ladder_at (y0 y1 y2 y3 : Vec Ideal S256x4096 .bf16) (q : Fin 32) (r : Fin 256) (k : Fin 4) (u : ℕ) (hu : u < 128)
    (h : 128 * k.val + u < 512) :
    ladder y0 y1 y2 y3 q r ⟨128 * k.val + u, h⟩ =
      (![y0, y1, y2, y3] : Fin 4 → Vec Ideal S256x4096 .bf16) k (ix2 r ⟨128 * q.val + u, by omega⟩) := by
  unfold ladder
  fin_cases k
  · simp [hu]
  · simp [hu]
  · have a1 : ¬ (256 + u < 128) := by omega
    have a2 : ¬ (256 + u - 128 < 128) := by omega
    have a3 : 256 + u - 128 - 128 = u := by omega
    simp [hu, a1, a2, a3]
  · have a1 : ¬ (384 + u < 128) := by omega
    have a2 : ¬ (384 + u - 128 < 128) := by omega
    have a3 : ¬ (384 + u - 128 - 128 < 128) := by omega
    have a4 : 384 + u - 128 - 128 - 128 = u := by omega
    simp [a1, a2, a3, a4]

/-- One tile of the second convolution as one sum. -/
theorem piece_sum (y0 y1 y2 y3 : Vec Ideal S256x4096 .bf16) (P : Vec Ideal S512x128 .bf16) (B : Vec Ideal S1x128 .bf16) (q : Fin 32) (r : Fin 256) (j : Fin 128) :
    piece2 y0 y1 y2 y3 P B q (ix2 r j) = max (∑ x : Fin 512, ladder y0 y1 y2 y3 q r x * P (ix2 x j) + B (ix2 0 j)) 0 := by
  pointwise [piece2, ladder]

/-- One tile of the second convolution at an index, from what its operands are there. -/
theorem piece_at (y0 y1 y2 y3 : Vec Ideal S256x4096 .bf16) (P : Vec Ideal S512x128 .bf16) (B : Vec Ideal S1x128 .bf16) (q : Fin 32) (r : Fin 256) (j : Fin 128)
    (T w : Fin 4 → Fin 32 → EReal) (b : EReal)
    (hT : ∀ (k : Fin 4) (a : Fin 32) (h : 128 * q.val + (32 * (j.val / 32) + a.val) < 4096),
      (![y0, y1, y2, y3] : Fin 4 → Vec Ideal S256x4096 .bf16) k (ix2 r ⟨128 * q.val + (32 * (j.val / 32) + a.val), h⟩) = T k a)
    (hP : ∀ (k f : Fin 4) (a : Fin 32) (h : 128 * k.val + (32 * f.val + a.val) < 512),
      P (ix2 ⟨128 * k.val + (32 * f.val + a.val), h⟩ j) = (if f.val = j.val / 32 then 1 else 0) * w k a)
    (hB : B (ix2 0 j) = b) : piece2 y0 y1 y2 y3 P B q (ix2 r j) = max (∑ k, ∑ a, T k a * w k a + b) 0 := by
  have hj : j.val / 32 < 4 := by omega
  rw [piece_sum, hB, Plain.sum_split (K := 4) (M := 128) rfl]
  congr 2
  refine Finset.sum_congr rfl fun k _ => ?_
  rw [Plain.sum_split (K := 4) (M := 32) rfl, Finset.sum_comm]
  refine Finset.sum_congr rfl fun a _ => ?_
  have cell : ∀ (f : Fin 4) (h : 128 * k.val + (32 * f.val + a.val) < 512),
      ladder y0 y1 y2 y3 q r ⟨128 * k.val + (32 * f.val + a.val), h⟩ * P (ix2 ⟨128 * k.val + (32 * f.val + a.val), h⟩ j) =
      (![y0, y1, y2, y3] : Fin 4 → Vec Ideal S256x4096 .bf16) k (ix2 r ⟨128 * q.val + (32 * f.val + a.val), by omega⟩) *
        ((if f.val = j.val / 32 then 1 else 0) * w k a) := fun f h => by
    rw [hP, ladder_at _ _ _ _ _ _ _ _ (by omega)]
  refine (Finset.sum_congr rfl fun f _ => cell f _).trans ?_
  rw [Plain.sum_pick (⟨j.val / 32, hj⟩ : Fin 4)
    (fun f : Fin 4 => (![y0, y1, y2, y3] : Fin 4 → Vec Ideal S256x4096 .bf16) k (ix2 r ⟨128 * q.val + (32 * f.val + a.val), by omega⟩))
    (fun _ => w k a) (fun f => if f.val = j.val / 32 then 1 else 0)]
  · exact congrArg (· * w k a) (hT k a _)
  · intro f
    simp only [Fin.ext_iff]

/-- The last linear map of a block at an index. -/
theorem headed_at (g : Vec Ideal S256x4096 .bf16) (w : Vec Ideal S4096x10 .bf16) (b : Vec Ideal S8x10 .f32) (r : Fin 256) (o : Fin 10) :
    headed g w b (ix2 r o) = ∑ j, g (ix2 r j) * w (ix2 j o) + b (ix2 0 o) := by
  pointwise [headed, k1_pay6, k1_pay56, k1_pay57, View.ld]

/-- A block of the first product of the second call. -/
theorem mul_at (l : Vec Ideal S256x2048 .f32) (y : Vec Ideal S2048x4096 .bf16) (r : Fin 256) (j : Fin 4096) :
    k1_pay2 l y (ix2 r j) = ∑ k, l (ix2 r k) * y (ix2 k j) := by
  pointwise [k1_pay2, k1_pay1]

/-- A block of one step of the recurrence of the second call. -/
theorem next_at (l : Vec Ideal S256x2048 .f32) (y : Vec Ideal S2048x4096 .bf16) (v : Vec Ideal S256x4096 .bf16) (r : Fin 256) (j : Fin 4096) :
    k1_pay4 l y v (ix2 r j) = 2 * ∑ k, l (ix2 r k) * y (ix2 k j) - v (ix2 r j) := by
  pointwise [k1_pay4, k1_pay1, Words.two16]

/-- A block of the last step of the recurrence of the second call. -/
theorem last_at (l : Vec Ideal S256x2048 .f32) (y : Vec Ideal S2048x4096 .bf16) (v : Vec Ideal S256x4096 .bf16) (r : Fin 256) (j : Fin 4096) :
    k1_pay7 (k1_pay1 l) y v (ix2 r j) = 2 * ∑ k, l (ix2 r k) * y (ix2 k j) - v (ix2 r j) := by
  pointwise [k1_pay7, k1_pay1, Words.two16]

/-- The cast that keeps the shape keeps the rows. -/
theorem keep8 (v : Vec Ideal S256x4096 .bf16) : k1_pay8 v = v := by
  funext j
  pointwise [k1_pay8]

/-- The cast that keeps the shape keeps the weights. -/
theorem keep9 (v : Vec Ideal S512x128 .bf16) : k1_pay9 v = v := by
  funext j
  pointwise [k1_pay9]

/-- The cast that keeps the shape keeps the bias. -/
theorem keep10 (v : Vec Ideal S1x128 .bf16) : k1_pay10 v = v := by
  funext j
  pointwise [k1_pay10]

end Cert.KernelIdeal.Sgcn

end
-- ==== Proof.Sgcn.Result.lean ====
/-
  The kernel's result at an index as plain mathematics of its arguments: the two calls read block by block and put together.
-/
module

public import proofs.«01_k».proof.Proof.Sgcn.HostRead
public import proofs.«01_k».proof.Proof.Sgcn.KerRead2

@[expose] public section

set_option maxRecDepth 16384

noncomputable section

namespace Cert.KernelIdeal.Sgcn

open Cert.KernelIdeal.Gen
open Idealize.ShloMosaic Idealize.ShloMosaic.TcCoe
open Cert.Proof

variable (m : (ℓ : Loc nD τ sig) → Buf (Elt Ideal) ℓ) (c : Dev nD)

/-- The first matrix of the arguments. -/
def lapFirst (i k : Fin 2048) : EReal := given1 m c (ix3 0 i k)

/-- The last matrix of the arguments. -/
def lapLast (i k : Fin 2048) : EReal := given1 m c (ix3 2 i k)

/-- The first convolution of the arguments. -/
def layerOne : Fin 2048 → Fin 128 → Fin 32 → EReal :=
  Plain.first (lapFirst m c) (fun i f => given0 m c (ix2 i f)) (fun ch k => given2 m c (ix2 ch k)) (fun ch => given3 m c (ix1 ch))

/-- The second convolution of the arguments. -/
def layerTwo : Fin 2048 → Fin 128 → Fin 32 → EReal :=
  Plain.second (lapLast m c) (layerOne m c) (fun ch e => given4 m c (ix2 ch e)) (fun ch => given5 m c (ix1 ch))

/-- What the first call leaves, at an index. -/
theorem first_call (n : Fin 2048) (j : Fin 4096) :
    stacked (layer1 (sawFirst m) c) (ix2 n j) = layerOne m c n ⟨j.val / 32, by omega⟩ ⟨j.val % 32, by omega⟩ := by
  have hA : (fun i k => (sawFirst m c main_v49 : Vec Ideal S2048x2048 .f32) (ix2 i k)) = lapFirst m c := funext fun i => funext fun k => matrix1_at m c i k
  rw [stacked_row]
  unfold layer1
  refine (block1_at _ _ _ _ _ (fun k => Plain.cheb (lapFirst m c) (fun i => given0 m c (ix2 i ⟨j.val / 32, by omega⟩)) k n)
    (fun k => given2 m c (ix2 ⟨j.val % 32, by omega⟩ k)) (given3 m c (ix1 ⟨j.val % 32, by omega⟩)) ?_ ?_ (bias1_at m c j)).trans rfl
  · intro k h
    rw [slab_row]
    unfold cheb
    refine (terms_at _ _ n k (⟨j.val / 32, by omega⟩ : Fin 128) h).trans ?_
    rw [hA, columns_eq]
  · intro k u h
    have h1 : (128 * k.val + u.val) % 128 = u.val := by omega
    have h2 : (128 * k.val + u.val) / 128 = k.val := by omega
    refine (weights1_at m c _ j).trans ?_
    simp only [h1, h2, Fin.eta]

/-- The array between the calls, at an index. -/
theorem between_at (n : Fin 2048) (j : Fin 4096) :
    (sawSecond m c main_v50 : Vec Ideal S2048x4096 .bf16) (ix2 n j) = layerOne m c n ⟨j.val / 32, by omega⟩ ⟨j.val % 32, by omega⟩ :=
  (congrFun (between_eq m c) _).trans (first_call m c n j)

/-- Column `j` of the array between the calls. -/
def col (j : Fin 4096) (n : Fin 2048) : EReal := layerOne m c n ⟨j.val / 32, by omega⟩ ⟨j.val % 32, by omega⟩

/-- The first product of the second call, at an index. -/
theorem step1_at (n : Fin 2048) (j : Fin 4096) : step1 (sawSecond m) c (ix2 n j) = Plain.app (lapLast m c) (col m c j) n := by
  unfold step1
  rw [stacked_row, mul_at]
  refine Finset.sum_congr rfl fun k _ => ?_
  rw [slab_row]
  exact congrArg₂ (· * ·) (matrix2_at m c n k) (between_at m c k j)

/-- The second step of the second call, at an index. -/
theorem step2_at (n : Fin 2048) (j : Fin 4096) :
    step2 (sawSecond m) c (ix2 n j) = Plain.twice (lapLast m c) (Plain.app (lapLast m c) (col m c j)) (col m c j) n := by
  unfold step2
  rw [stacked_row, next_at, slab_row]
  refine congrArg₂ (· - ·) (congrArg (2 * ·) (Finset.sum_congr rfl fun k _ => ?_)) (between_at m c n j)
  rw [slab_row]
  exact congrArg₂ (· * ·) (matrix2_at m c n k) (step1_at m c k j)

/-- The last step of the second call, at an index. -/
theorem step3_at (n : Fin 2048) (j : Fin 4096) (h : n.val / 256 < 8) (h' : n.val % 256 < 256) :
    k1_pay7 (k1_pay1 (slab (sawSecond m c main_v52) ⟨n.val / 256, h⟩)) (step2 (sawSecond m) c) (slab (step1 (sawSecond m) c) ⟨n.val / 256, h⟩) (ix2 ⟨n.val % 256, h'⟩ j) =
      Plain.twice (lapLast m c) (Plain.twice (lapLast m c) (Plain.app (lapLast m c) (col m c j)) (col m c j)) (Plain.app (lapLast m c) (col m c j)) n := by
  rw [last_at, slab_row, step1_at]
  refine congrArg (· - Plain.app (lapLast m c) (col m c j) n) (congrArg (2 * ·) (Finset.sum_congr rfl fun k _ => ?_))
  rw [slab_row]
  exact congrArg₂ (· * ·) (matrix2_at m c n k) (step2_at m c k j)

/-- The four terms of the second call, at an index. -/
theorem terms2_at (n : Fin 2048) (j : Fin 4096) (k : Fin 4) (h : n.val / 256 < 8) (h' : n.val % 256 < 256) :
    (![k1_pay8 (slab (sawSecond m c main_v50) ⟨n.val / 256, h⟩), slab (step1 (sawSecond m) c) ⟨n.val / 256, h⟩, slab (step2 (sawSecond m) c) ⟨n.val / 256, h⟩,
      k1_pay7 (k1_pay1 (slab (sawSecond m c main_v52) ⟨n.val / 256, h⟩)) (step2 (sawSecond m) c) (slab (step1 (sawSecond m) c) ⟨n.val / 256, h⟩)] :
        Fin 4 → Vec Ideal S256x4096 .bf16) k (ix2 ⟨n.val % 256, h'⟩ j) = Plain.cheb (lapLast m c) (col m c j) k n := by
  unfold Plain.cheb
  fin_cases k
  · rw [keep8]
    exact (slab_row _ n j h h').trans (between_at m c n j)
  · exact (slab_row _ n j h h').trans (step1_at m c n j)
  · exact (slab_row _ n j h h').trans (step2_at m c n j)
  · exact step3_at m c n j h h'

/-- A sum over 32 channels of four terms each, the terms outermost. -/
theorem sum_terms (T : Fin 4 → Fin 32 → EReal) (w : Fin 128 → EReal) :
    ∑ k : Fin 4, ∑ a : Fin 32, T k a * w ⟨a.val * 4 + k.val, by omega⟩ =
      ∑ e : Fin 128, T ⟨e.val % 4, by omega⟩ ⟨e.val / 4, by omega⟩ * w e := by
  rw [Plain.sum_split (K := 32) (M := 4) rfl, Finset.sum_comm]
  refine Finset.sum_congr rfl fun a _ => Finset.sum_congr rfl fun k _ => ?_
  have h1 : (4 * a.val + k.val) % 4 = k.val := by omega
  have h2 : (4 * a.val + k.val) / 4 = a.val := by omega
  have h3 : a.val * 4 + k.val = 4 * a.val + k.val := by omega
  simp only [h1, h2, h3, Fin.eta]

/-- The second convolution of a block, at an index. -/
theorem second_call (n : Fin 2048) (j : Fin 4096) (h : n.val / 256 < 8) (h' : n.val % 256 < 256) :
    layer2 (k1_pay8 (slab (sawSecond m c main_v50) ⟨n.val / 256, h⟩)) (slab (step1 (sawSecond m) c) ⟨n.val / 256, h⟩) (slab (step2 (sawSecond m) c) ⟨n.val / 256, h⟩)
      (k1_pay7 (k1_pay1 (slab (sawSecond m c main_v52) ⟨n.val / 256, h⟩)) (step2 (sawSecond m) c) (slab (step1 (sawSecond m) c) ⟨n.val / 256, h⟩))
      (k1_pay9 (sawSecond m c main_v33)) (k1_pay10 (sawSecond m c main_v38)) (ix2 ⟨n.val % 256, h'⟩ j) =
      layerTwo m c n ⟨j.val / 32, by omega⟩ ⟨j.val % 32, by omega⟩ := by
  rw [keep9, keep10]
  refine (piece_at _ _ _ _ _ _ (⟨j.val / 128, by omega⟩ : Fin 32) (⟨n.val % 256, h'⟩ : Fin 256) (⟨j.val % 128, by omega⟩ : Fin 128)
    (fun k a => Plain.cheb (lapLast m c) (fun i => layerOne m c i ⟨j.val / 32, by omega⟩ a) k n)
    (fun k a => given4 m c (ix2 ⟨j.val % 32, by omega⟩ ⟨a.val * 4 + k.val, by omega⟩)) (given5 m c (ix1 ⟨j.val % 32, by omega⟩)) ?_ ?_ ?_).trans ?_
  · intro k a hk
    refine (terms2_at m c n _ k h h').trans ?_
    unfold col
    have h1 : (128 * (j.val / 128) + (32 * (j.val % 128 / 32) + a.val)) / 32 = j.val / 32 := by omega
    have h2 : (128 * (j.val / 128) + (32 * (j.val % 128 / 32) + a.val)) % 32 = a.val := by omega
    simp only [h1, h2, Fin.eta]
  · intro k f a hk
    refine (weights2_at m c _ _).trans ?_
    have h1 : (128 * k.val + (32 * f.val + a.val)) / 32 % 4 = f.val := by omega
    have h2 : (128 * k.val + (32 * f.val + a.val)) % 32 = a.val := by omega
    have h3 : (128 * k.val + (32 * f.val + a.val)) / 128 = k.val := by omega
    have h4 : j.val % 128 % 32 = j.val % 32 := by omega
    simp only [h1, h2, h3, h4]
  · refine (bias2_at m c _).trans ?_
    have h4 : j.val % 128 % 32 = j.val % 32 := by omega
    simp only [h4]
  · unfold layerTwo Plain.second
    rw [sum_terms (fun k a => Plain.cheb (lapLast m c) (fun i => layerOne m c i ⟨j.val / 32, by omega⟩ a) k n) (fun e => given4 m c (ix2 ⟨j.val % 32, by omega⟩ e))]

/-- The kernel's result at an index, as plain mathematics of its arguments. -/
theorem result_at (n : Fin 2048) (o : Fin 10) :
    stacked (answer (sawSecond m) c) (ix2 n o) =
      Plain.headOne (fun j => layerTwo m c n ⟨j.val / 32, by omega⟩ ⟨j.val % 32, by omega⟩) (fun q j => given6 m c (ix2 q j)) (fun q => given7 m c (ix1 q))
        (fun o q => given8 m c (ix2 o q)) (fun o => given9 m c (ix1 o)) o := by
  rw [stacked_row]
  unfold answer
  rw [headed_at]
  refine congrArg₂ (· + ·) (Finset.sum_congr rfl fun j _ => ?_) (bias3_at m c 0 o)
  exact congrArg₂ (· * ·) (second_call m c n j _ _) (weights3_at m c j o)

end Cert.KernelIdeal.Sgcn

end
-- ==== Proof.Sgcn.Stages.lean ====
/-
  The stages of the reference, by name: the columns, the recurrence, the two convolutions and the two linear maps.
-/
module

public import proofs.«01_k».proof.Proof.Gen.ReferenceIdeal.Run
public import proofs.«01_k».proof.Proof.Sgcn.Plain
public import proofs.«01_k».proof.Proof.Sgcn.Words
public import Idealize.ShloMosaic.Lib.Pointwise

@[expose] public section

set_option maxRecDepth 16384

noncomputable section

namespace Cert.ReferenceIdeal.Sgcn

open Cert.ReferenceIdeal Cert.ReferenceIdeal.Gen Idealize.ShloMosaic Idealize.ShloMosaic.TcCoe

/-- The feature columns. -/
def column (x : FVec Ideal S2048x128 .f32) : FVec Ideal S2048x128 .f32 :=
  shapeCast S2048x128 (transpose S2048x1x128 [0, 2, 1] (broadcastInDim S2048x128x1 ![0, 1] bcast_S2048x128_S2048x128x1_0_1 x) transposes_S2048x128x1_S2048x1x128_0_2_1) shapeCasts_S2048x1x128_S2048x128

/-- The first matrix of the three. -/
def lap0 (L : FVec Ideal S3x2048x2048 .f32) : FVec Ideal S2048x2048 .f32 :=
  shapeCast S2048x2048 (extractStridedSlice S1x2048x2048 ![0, 0, 0] L slices_S3x2048x2048_S1x2048x2048_0_0_0) shapeCasts_S1x2048x2048_S2048x2048

/-- The last matrix of the three. -/
def lap2 (L : FVec Ideal S3x2048x2048 .f32) : FVec Ideal S2048x2048 .f32 :=
  shapeCast S2048x2048 (extractStridedSlice S1x2048x2048 ![2, 0, 0] L slices_S3x2048x2048_S1x2048x2048_2_0_0) shapeCasts_S1x2048x2048_S2048x2048

/-- The matrix applied to the feature columns. -/
def app1 (A : FVec Ideal S2048x2048 .f32) (t : FVec Ideal S2048x128 .f32) : FVec Ideal S2048x128 .f32 :=
  Host.dotGeneral dot_S2048x2048_S2048x128_S2048x128_1_0_0_1_n_n none A t

/-- One step of the recurrence on the feature columns. -/
def step1 (A : FVec Ideal S2048x2048 .f32) (u v : FVec Ideal S2048x128 .f32) : FVec Ideal S2048x128 .f32 :=
  subf (mulf (broadcastInDim S2048x128 ![] bcast_S_S2048x128 (constant S_ .f32 0x40000000#32)) (app1 A u)) v

/-- The matrix applied to the columns of the second convolution. -/
def app2 (A : FVec Ideal S2048x2048 .f32) (t : FVec Ideal S2048x4096 .f32) : FVec Ideal S2048x4096 .f32 :=
  Host.dotGeneral dot_S2048x2048_S2048x4096_S2048x4096_1_0_0_1_n_n none A t

/-- One step of the recurrence on the columns of the second convolution. -/
def step2 (A : FVec Ideal S2048x2048 .f32) (u v : FVec Ideal S2048x4096 .f32) : FVec Ideal S2048x4096 .f32 :=
  subf (mulf (broadcastInDim S2048x4096 ![] bcast_S_S2048x4096 (constant S_ .f32 0x40000000#32)) (app2 A u)) v

/-- The four terms stacked. -/
def four1 (t0 t1 t2 t3 : FVec Ideal S2048x128 .f32) : FVec Ideal S4x2048x128 .f32 :=
  concatenate S4x2048x128 0 [⟨S1x2048x128, (broadcastInDim S1x2048x128 ![1, 2] bcast_S2048x128_S1x2048x128_1_2 t0 : FVec Ideal S1x2048x128 .f32)⟩,
    ⟨S1x2048x128, (broadcastInDim S1x2048x128 ![1, 2] bcast_S2048x128_S1x2048x128_1_2 t1 : FVec Ideal S1x2048x128 .f32)⟩,
    ⟨S1x2048x128, (broadcastInDim S1x2048x128 ![1, 2] bcast_S2048x128_S1x2048x128_1_2 t2 : FVec Ideal S1x2048x128 .f32)⟩,
    ⟨S1x2048x128, (broadcastInDim S1x2048x128 ![1, 2] bcast_S2048x128_S1x2048x128_1_2 t3 : FVec Ideal S1x2048x128 .f32)⟩] concatenates_S1x2048x128_S1x2048x128_S1x2048x128_S1x2048x128_S4x2048x128_d0

/-- The four terms as rows, one for each vertex and feature column, of the first convolution. -/
def rows1 (t0 t1 t2 t3 : FVec Ideal S2048x128 .f32) : FVec Ideal S262144x4 .f32 :=
  shapeCast S262144x4 (transpose S2048x128x1x4 [1, 3, 2, 0] (shapeCast S4x2048x1x128 (four1 t0 t1 t2 t3) shapeCasts_S4x2048x128_S4x2048x1x128) transposes_S4x2048x1x128_S2048x128x1x4_1_3_2_0)
    shapeCasts_S2048x128x1x4_S262144x4

/-- The first convolution's linear map of the rows, with its bias. -/
def lin1 (r : FVec Ideal S262144x4 .f32) (W : FVec Ideal S32x4 .f32) (b : FVec Ideal S32 .f32) : FVec Ideal S262144x32 .f32 :=
  addf (Host.dotGeneral dot_S262144x4_S4x32_S262144x32_1_0_0_1_n_n none r (transpose S4x32 [1, 0] W transposes_S32x4_S4x32_1_0))
    (broadcastInDim S262144x32 ![0, 1] bcast_S1x32_S262144x32_0_1 (broadcastInDim S1x32 ![1] bcast_S32_S1x32_1 b))

/-- The rows laid out by vertex, feature column and channel, and rectified. -/
def rect (z : FVec Ideal S262144x32 .f32) : FVec Ideal S2048x128x32 .f32 :=
  maximumf (shapeCast S2048x128x32 z shapeCasts_S262144x32_S2048x128x32) (broadcastInDim S2048x128x32 ![] bcast_S_S2048x128x32 (constant S_ .f32 0x00000000#32))

/-- The first convolution's linear map, bias and rectification, of the four terms. -/
def mix1 (t0 t1 t2 t3 : FVec Ideal S2048x128 .f32) (W : FVec Ideal S32x4 .f32) (b : FVec Ideal S32 .f32) : FVec Ideal S2048x128x32 .f32 :=
  rect (lin1 (rows1 t0 t1 t2 t3) W b)

/-- The rectified channels laid out as columns, channel by channel. -/
def spread (y : FVec Ideal S2048x128x32 .f32) : FVec Ideal S2048x4096 .f32 :=
  shapeCast S2048x4096 (transpose S2048x32x128 [0, 2, 1] y transposes_S2048x128x32_S2048x32x128_0_2_1) shapeCasts_S2048x32x128_S2048x4096

/-- The four terms stacked, for the second convolution. -/
def four2 (t0 t1 t2 t3 : FVec Ideal S2048x4096 .f32) : FVec Ideal S4x2048x4096 .f32 :=
  concatenate S4x2048x4096 0 [⟨S1x2048x4096, (broadcastInDim S1x2048x4096 ![1, 2] bcast_S2048x4096_S1x2048x4096_1_2 t0 : FVec Ideal S1x2048x4096 .f32)⟩,
    ⟨S1x2048x4096, (broadcastInDim S1x2048x4096 ![1, 2] bcast_S2048x4096_S1x2048x4096_1_2 t1 : FVec Ideal S1x2048x4096 .f32)⟩,
    ⟨S1x2048x4096, (broadcastInDim S1x2048x4096 ![1, 2] bcast_S2048x4096_S1x2048x4096_1_2 t2 : FVec Ideal S1x2048x4096 .f32)⟩,
    ⟨S1x2048x4096, (broadcastInDim S1x2048x4096 ![1, 2] bcast_S2048x4096_S1x2048x4096_1_2 t3 : FVec Ideal S1x2048x4096 .f32)⟩] concatenates_S1x2048x4096_S1x2048x4096_S1x2048x4096_S1x2048x4096_S4x2048x4096_d0

/-- The four terms as rows, one for each vertex and feature column, of the second convolution. -/
def rows2 (t0 t1 t2 t3 : FVec Ideal S2048x4096 .f32) : FVec Ideal S262144x128 .f32 :=
  shapeCast S262144x128 (transpose S2048x128x32x4 [1, 3, 2, 0] (shapeCast S4x2048x32x128 (four2 t0 t1 t2 t3) shapeCasts_S4x2048x4096_S4x2048x32x128) transposes_S4x2048x32x128_S2048x128x32x4_1_3_2_0)
    shapeCasts_S2048x128x32x4_S262144x128

/-- The second convolution's linear map of the rows, with its bias. -/
def lin2 (r : FVec Ideal S262144x128 .f32) (W : FVec Ideal S32x128 .f32) (b : FVec Ideal S32 .f32) : FVec Ideal S262144x32 .f32 :=
  addf (Host.dotGeneral dot_S262144x128_S128x32_S262144x32_1_0_0_1_n_n none r (transpose S128x32 [1, 0] W transposes_S32x128_S128x32_1_0))
    (broadcastInDim S262144x32 ![0, 1] bcast_S1x32_S262144x32_0_1 (broadcastInDim S1x32 ![1] bcast_S32_S1x32_1 b))

/-- The second convolution's linear map, bias and rectification, of the four terms. -/
def mix2 (t0 t1 t2 t3 : FVec Ideal S2048x4096 .f32) (W : FVec Ideal S32x128 .f32) (b : FVec Ideal S32 .f32) : FVec Ideal S2048x128x32 .f32 :=
  rect (lin2 (rows2 t0 t1 t2 t3) W b)

/-- The channels as one row for each vertex. -/
def flat (g : FVec Ideal S2048x128x32 .f32) : FVec Ideal S2048x4096 .f32 := shapeCast S2048x4096 g shapeCasts_S2048x128x32_S2048x4096

/-- The first linear map at the end. -/
def fc1 (h : FVec Ideal S2048x4096 .f32) (W : FVec Ideal S512x4096 .f32) (b : FVec Ideal S512 .f32) : FVec Ideal S2048x512 .f32 :=
  addf (Host.dotGeneral dot_S2048x4096_S4096x512_S2048x512_1_0_0_1_n_n none h (transpose S4096x512 [1, 0] W transposes_S512x4096_S4096x512_1_0))
    (broadcastInDim S2048x512 ![0, 1] bcast_S1x512_S2048x512_0_1 (broadcastInDim S1x512 ![1] bcast_S512_S1x512_1 b))

/-- The second linear map at the end. -/
def fc2 (h : FVec Ideal S2048x512 .f32) (W : FVec Ideal S10x512 .f32) (b : FVec Ideal S10 .f32) : FVec Ideal S2048x10 .f32 :=
  addf (Host.dotGeneral dot_S2048x512_S512x10_S2048x10_1_0_0_1_n_n none h (transpose S512x10 [1, 0] W transposes_S10x512_S512x10_1_0))
    (broadcastInDim S2048x10 ![0, 1] bcast_S1x10_S2048x10_0_1 (broadcastInDim S1x10 ![1] bcast_S10_S1x10_1 b))

/-- The two linear maps at the end. -/
def head (g : FVec Ideal S2048x128x32 .f32) (W1 : FVec Ideal S512x4096 .f32) (b1 : FVec Ideal S512 .f32) (W2 : FVec Ideal S10x512 .f32) (b2 : FVec Ideal S10 .f32) :
    FVec Ideal S2048x10 .f32 := fc2 (fc1 (flat g) W1 b1) W2 b2

/-- The first convolution. -/
def conv1 (A : FVec Ideal S2048x2048 .f32) (t : FVec Ideal S2048x128 .f32) (W : FVec Ideal S32x4 .f32) (b : FVec Ideal S32 .f32) : FVec Ideal S2048x128x32 .f32 :=
  mix1 t (app1 A t) (step1 A (app1 A t) t) (step1 A (step1 A (app1 A t) t) (app1 A t)) W b

/-- The second convolution. -/
def conv2 (A : FVec Ideal S2048x2048 .f32) (t : FVec Ideal S2048x4096 .f32) (W : FVec Ideal S32x128 .f32) (b : FVec Ideal S32 .f32) : FVec Ideal S2048x128x32 .f32 :=
  mix2 t (app2 A t) (step2 A (app2 A t) t) (step2 A (step2 A (app2 A t) t) (app2 A t)) W b

end Cert.ReferenceIdeal.Sgcn

end
-- ==== Proof.Sgcn.Plainly.lean ====
/-
  Each stage of the reference read at an index as the plain mathematics of Plain.lean.
-/
module

public import proofs.«01_k».proof.Proof.Gen.ReferenceIdeal.Run
public import proofs.«01_k».proof.Proof.Sgcn.Plain
public import proofs.«01_k».proof.Proof.Sgcn.Words
public import proofs.«01_k».proof.Proof.Sgcn.Stages
public import Idealize.ShloMosaic.Lib.Pointwise

@[expose] public section

set_option maxRecDepth 16384

noncomputable section

namespace Cert.ReferenceIdeal.Sgcn

open Cert.ReferenceIdeal Cert.ReferenceIdeal.Gen Idealize.ShloMosaic Idealize.ShloMosaic.TcCoe

/-- A feature column is the argument's. -/
theorem column_at (x : FVec Ideal S2048x128 .f32) (n : Fin 2048) (f : Fin 128) : column x (ix2 n f) = x (ix2 n f) := by
  pointwise [column]

/-- The first matrix at an index. -/
theorem lap0_at (L : FVec Ideal S3x2048x2048 .f32) (n k : Fin 2048) : lap0 L (ix2 n k) = L (ix3 0 n k) := by
  pointwise [lap0]

/-- The last matrix at an index. -/
theorem lap2_at (L : FVec Ideal S3x2048x2048 .f32) (n k : Fin 2048) : lap2 L (ix2 n k) = L (ix3 2 n k) := by
  pointwise [lap2]

/-- The product at an index. -/
theorem app1_at (A : FVec Ideal S2048x2048 .f32) (t : FVec Ideal S2048x128 .f32) (n : Fin 2048) (f : Fin 128) :
    app1 A t (ix2 n f) = Cert.Proof.Plain.app (fun i k => A (ix2 i k)) (fun i => t (ix2 i f)) n := by
  pointwise [app1, Cert.Proof.Plain.app]

/-- The product at an index, for the second convolution. -/
theorem app2_at (A : FVec Ideal S2048x2048 .f32) (t : FVec Ideal S2048x4096 .f32) (n : Fin 2048) (f : Fin 4096) :
    app2 A t (ix2 n f) = Cert.Proof.Plain.app (fun i k => A (ix2 i k)) (fun i => t (ix2 i f)) n := by
  pointwise [app2, Cert.Proof.Plain.app]

/-- One step at an index. -/
theorem step1_at (A : FVec Ideal S2048x2048 .f32) (u v : FVec Ideal S2048x128 .f32) (n : Fin 2048) (f : Fin 128) :
    step1 A u v (ix2 n f) = Cert.Proof.Plain.twice (fun i k => A (ix2 i k)) (fun i => u (ix2 i f)) (fun i => v (ix2 i f)) n := by
  pointwise [step1, app1, Cert.Proof.Plain.app, Cert.Proof.Plain.twice, Cert.Proof.Words.two32]

/-- One step at an index, for the second convolution. -/
theorem step2_at (A : FVec Ideal S2048x2048 .f32) (u v : FVec Ideal S2048x4096 .f32) (n : Fin 2048) (f : Fin 4096) :
    step2 A u v (ix2 n f) = Cert.Proof.Plain.twice (fun i k => A (ix2 i k)) (fun i => u (ix2 i f)) (fun i => v (ix2 i f)) n := by
  pointwise [step2, app2, Cert.Proof.Plain.app, Cert.Proof.Plain.twice, Cert.Proof.Words.two32]

/-- The stacked terms at an index. -/
theorem four1_at (t0 t1 t2 t3 : FVec Ideal S2048x128 .f32) (k : Fin 4) (n : Fin 2048) (f : Fin 128) :
    four1 t0 t1 t2 t3 (ix3 k n f) = (![t0, t1, t2, t3] : Fin 4 → FVec Ideal S2048x128 .f32) k (ix2 n f) := by
  pointwise [four1]
  fin_cases k <;> simp

/-- The stacked terms at an index, for the second convolution. -/
theorem four2_at (t0 t1 t2 t3 : FVec Ideal S2048x4096 .f32) (k : Fin 4) (n : Fin 2048) (f : Fin 4096) :
    four2 t0 t1 t2 t3 (ix3 k n f) = (![t0, t1, t2, t3] : Fin 4 → FVec Ideal S2048x4096 .f32) k (ix2 n f) := by
  pointwise [four2]
  fin_cases k <;> simp

/-- Four axes flattened to rows of four, at an index. -/
theorem rows1_cast (X : FVec Ideal S2048x128x1x4 .f32) (r : Fin 262144) (k : Fin 4) :
    shapeCast S262144x4 X shapeCasts_S2048x128x1x4_S262144x4 (ix2 r k) = X (ix4 ⟨r.val / 128, by omega⟩ ⟨r.val % 128, by omega⟩ 0 k) := by
  pointwise

/-- The four terms with an axis of one put in, turned, at an index. -/
theorem rows1_turn (X : FVec Ideal S4x2048x128 .f32) (n : Fin 2048) (f : Fin 128) (k : Fin 4) :
    transpose S2048x128x1x4 [1, 3, 2, 0] (shapeCast S4x2048x1x128 X shapeCasts_S4x2048x128_S4x2048x1x128) transposes_S4x2048x1x128_S2048x128x1x4_1_3_2_0 (ix4 n f 0 k) =
      X (ix3 k n f) := by
  pointwise

/-- The rows of the terms at an index. -/
theorem rows1_at (t0 t1 t2 t3 : FVec Ideal S2048x128 .f32) (r : Fin 262144) (k : Fin 4) :
    rows1 t0 t1 t2 t3 (ix2 r k) = four1 t0 t1 t2 t3 (ix3 k ⟨r.val / 128, by omega⟩ ⟨r.val % 128, by omega⟩) := by
  unfold rows1
  rw [rows1_cast, rows1_turn]

/-- Four axes flattened to rows of 128, at an index. -/
theorem rows2_cast (X : FVec Ideal S2048x128x32x4 .f32) (r : Fin 262144) (e : Fin 128) :
    shapeCast S262144x128 X shapeCasts_S2048x128x32x4_S262144x128 (ix2 r e) =
      X (ix4 ⟨r.val / 128, by omega⟩ ⟨r.val % 128, by omega⟩ ⟨e.val / 4, by omega⟩ ⟨e.val % 4, by omega⟩) := by
  pointwise

/-- The last axis of the four terms cut in two, at an index. -/
theorem rows2_cut (X : FVec Ideal S4x2048x4096 .f32) (k : Fin 4) (n : Fin 2048) (a : Fin 32) (f : Fin 128) :
    shapeCast S4x2048x32x128 X shapeCasts_S4x2048x4096_S4x2048x32x128 (ix4 k n a f) = X (ix3 k n ⟨a.val * 128 + f.val, by omega⟩) := by
  pointwise

/-- The axes turned, at an index. -/
theorem rows2_turn (X : FVec Ideal S4x2048x32x128 .f32) (n : Fin 2048) (f : Fin 128) (a : Fin 32) (k : Fin 4) :
    transpose S2048x128x32x4 [1, 3, 2, 0] X transposes_S4x2048x32x128_S2048x128x32x4_1_3_2_0 (ix4 n f a k) = X (ix4 k n a f) := by
  pointwise

/-- The rows of the terms at an index, for the second convolution. -/
theorem rows2_at (t0 t1 t2 t3 : FVec Ideal S2048x4096 .f32) (r : Fin 262144) (e : Fin 128) :
    rows2 t0 t1 t2 t3 (ix2 r e) = four2 t0 t1 t2 t3 (ix3 ⟨e.val % 4, by omega⟩ ⟨r.val / 128, by omega⟩ ⟨e.val / 4 * 128 + r.val % 128, by omega⟩) := by
  unfold rows2
  rw [rows2_cast, rows2_turn, rows2_cut]

/-- The first linear map at an index. -/
theorem lin1_at (R : FVec Ideal S262144x4 .f32) (W : FVec Ideal S32x4 .f32) (b : FVec Ideal S32 .f32) (r : Fin 262144) (c : Fin 32) :
    lin1 R W b (ix2 r c) = ∑ k : Fin 4, R (ix2 r k) * W (ix2 c k) + b (ix1 c) := by
  pointwise [lin1]

/-- The second linear map at an index. -/
theorem lin2_at (R : FVec Ideal S262144x128 .f32) (W : FVec Ideal S32x128 .f32) (b : FVec Ideal S32 .f32) (r : Fin 262144) (c : Fin 32) :
    lin2 R W b (ix2 r c) = ∑ e : Fin 128, R (ix2 r e) * W (ix2 c e) + b (ix1 c) := by
  pointwise [lin2]

/-- The rectified rows at an index. -/
theorem rect_at (z : FVec Ideal S262144x32 .f32) (n : Fin 2048) (f : Fin 128) (c : Fin 32) :
    rect z (ix3 n f c) = max (z (ix2 ⟨n.val * 128 + f.val, by omega⟩ c)) 0 := by
  pointwise [rect]

/-- The columns of the second convolution at an index. -/
theorem spread_at (y : FVec Ideal S2048x128x32 .f32) (n : Fin 2048) (j : Fin 4096) : spread y (ix2 n j) = y (ix3 n ⟨j.val % 128, by omega⟩ ⟨j.val / 128, by omega⟩) := by
  pointwise [spread]

/-- The flattened channels at an index. -/
theorem flat_at (g : FVec Ideal S2048x128x32 .f32) (n : Fin 2048) (j : Fin 4096) : flat g (ix2 n j) = g (ix3 n ⟨j.val / 32, by omega⟩ ⟨j.val % 32, by omega⟩) := by
  pointwise [flat]

/-- The first linear map at the end, at an index. -/
theorem fc1_at (h : FVec Ideal S2048x4096 .f32) (W : FVec Ideal S512x4096 .f32) (b : FVec Ideal S512 .f32) (n : Fin 2048) (q : Fin 512) :
    fc1 h W b (ix2 n q) = ∑ j, h (ix2 n j) * W (ix2 q j) + b (ix1 q) := by
  pointwise [fc1]

/-- The second linear map at the end, at an index. -/
theorem fc2_at (h : FVec Ideal S2048x512 .f32) (W : FVec Ideal S10x512 .f32) (b : FVec Ideal S10 .f32) (n : Fin 2048) (o : Fin 10) :
    fc2 h W b (ix2 n o) = ∑ q, h (ix2 n q) * W (ix2 o q) + b (ix1 o) := by
  pointwise [fc2]

/-- The four terms of the first convolution at an index. -/
theorem terms1 (A : FVec Ideal S2048x2048 .f32) (t : FVec Ideal S2048x128 .f32) (k : Fin 4) (n : Fin 2048) (f : Fin 128) :
    (![t, app1 A t, step1 A (app1 A t) t, step1 A (step1 A (app1 A t) t) (app1 A t)] : Fin 4 → FVec Ideal S2048x128 .f32) k (ix2 n f) =
      Cert.Proof.Plain.cheb (fun i k => A (ix2 i k)) (fun i => t (ix2 i f)) k n := by
  have h1 : (fun i => app1 A t (ix2 i f)) = Cert.Proof.Plain.app (fun i k => A (ix2 i k)) (fun i => t (ix2 i f)) := funext fun i => app1_at A t i f
  have h2 : (fun i => step1 A (app1 A t) t (ix2 i f)) =
      Cert.Proof.Plain.twice (fun i k => A (ix2 i k)) (Cert.Proof.Plain.app (fun i k => A (ix2 i k)) (fun i => t (ix2 i f))) (fun i => t (ix2 i f)) :=
    funext fun i => by rw [step1_at, h1]
  unfold Cert.Proof.Plain.cheb
  fin_cases k
  · rfl
  · exact app1_at A t n f
  · exact congrFun h2 n
  · exact (step1_at A _ _ n f).trans (by rw [h1, h2]; rfl)

/-- The four terms of the second convolution at an index. -/
theorem terms2 (A : FVec Ideal S2048x2048 .f32) (t : FVec Ideal S2048x4096 .f32) (k : Fin 4) (n : Fin 2048) (f : Fin 4096) :
    (![t, app2 A t, step2 A (app2 A t) t, step2 A (step2 A (app2 A t) t) (app2 A t)] : Fin 4 → FVec Ideal S2048x4096 .f32) k (ix2 n f) =
      Cert.Proof.Plain.cheb (fun i k => A (ix2 i k)) (fun i => t (ix2 i f)) k n := by
  have h1 : (fun i => app2 A t (ix2 i f)) = Cert.Proof.Plain.app (fun i k => A (ix2 i k)) (fun i => t (ix2 i f)) := funext fun i => app2_at A t i f
  have h2 : (fun i => step2 A (app2 A t) t (ix2 i f)) =
      Cert.Proof.Plain.twice (fun i k => A (ix2 i k)) (Cert.Proof.Plain.app (fun i k => A (ix2 i k)) (fun i => t (ix2 i f))) (fun i => t (ix2 i f)) :=
    funext fun i => by rw [step2_at, h1]
  unfold Cert.Proof.Plain.cheb
  fin_cases k
  · rfl
  · exact app2_at A t n f
  · exact congrFun h2 n
  · exact (step2_at A _ _ n f).trans (by rw [h1, h2]; rfl)

/-- The vertex of a row. -/
theorem row_vertex (n : Fin 2048) (f : Fin 128) (h : (n.val * 128 + f.val) / 128 < 2048) : (⟨(n.val * 128 + f.val) / 128, h⟩ : Fin 2048) = n :=
  Fin.ext (by show (n.val * 128 + f.val) / 128 = n.val; omega)

/-- The feature column of a row. -/
theorem row_column (n : Fin 2048) (f : Fin 128) (h : (n.val * 128 + f.val) % 128 < 128) : (⟨(n.val * 128 + f.val) % 128, h⟩ : Fin 128) = f :=
  Fin.ext (by show (n.val * 128 + f.val) % 128 = f.val; omega)

/-- The first convolution at an index. -/
theorem conv1_at (A : FVec Ideal S2048x2048 .f32) (t : FVec Ideal S2048x128 .f32) (W : FVec Ideal S32x4 .f32) (b : FVec Ideal S32 .f32)
    (n : Fin 2048) (f : Fin 128) (c : Fin 32) :
    conv1 A t W b (ix3 n f c) = Cert.Proof.Plain.first (fun i k => A (ix2 i k)) (fun i f => t (ix2 i f)) (fun c k => W (ix2 c k)) (fun c => b (ix1 c)) n f c := by
  unfold conv1 mix1 Cert.Proof.Plain.first
  rw [rect_at, lin1_at]
  congr 2
  refine Finset.sum_congr rfl fun k _ => ?_
  rw [rows1_at, four1_at]
  simp only [row_vertex, row_column]
  rw [terms1]

/-- A column of the second convolution is a feature column and a channel. -/
theorem spread_column (y : FVec Ideal S2048x128x32 .f32) (n : Fin 2048) (f e : Fin 128) (h : e.val / 4 * 128 + f.val < 4096) :
    spread y (ix2 n ⟨e.val / 4 * 128 + f.val, h⟩) = y (ix3 n f ⟨e.val / 4, by omega⟩) := by
  have h1 : ∀ h', (⟨(e.val / 4 * 128 + f.val) % 128, h'⟩ : Fin 128) = f := fun _ => Fin.ext (by show (e.val / 4 * 128 + f.val) % 128 = f.val; omega)
  have h2 : ∀ h' h'', (⟨(e.val / 4 * 128 + f.val) / 128, h'⟩ : Fin 32) = ⟨e.val / 4, h''⟩ :=
    fun _ _ => Fin.ext (by show (e.val / 4 * 128 + f.val) / 128 = e.val / 4; omega)
  rw [spread_at, h1, h2]

/-- The second convolution at an index. -/
theorem conv2_at (A : FVec Ideal S2048x2048 .f32) (y : FVec Ideal S2048x128x32 .f32) (W : FVec Ideal S32x128 .f32) (b : FVec Ideal S32 .f32)
    (n : Fin 2048) (f : Fin 128) (c : Fin 32) :
    conv2 A (spread y) W b (ix3 n f c) =
      Cert.Proof.Plain.second (fun i k => A (ix2 i k)) (fun i f a => y (ix3 i f a)) (fun c e => W (ix2 c e)) (fun c => b (ix1 c)) n f c := by
  unfold conv2 mix2 Cert.Proof.Plain.second
  rw [rect_at, lin2_at]
  congr 2
  refine Finset.sum_congr rfl fun e _ => ?_
  rw [rows2_at, four2_at]
  simp only [row_vertex, row_column]
  rw [terms2]
  have hm : (n.val * 128 + f.val) % 128 = f.val := by omega
  simp only [hm, spread_column]

/-- The reference's result at an index, as plain mathematics of its arguments. -/
theorem result_at (x : FVec Ideal S2048x128 .f32) (L : FVec Ideal S3x2048x2048 .f32) (Wa : FVec Ideal S32x4 .f32) (ba : FVec Ideal S32 .f32)
    (Wb : FVec Ideal S32x128 .f32) (bb : FVec Ideal S32 .f32) (W1 : FVec Ideal S512x4096 .f32) (b1 : FVec Ideal S512 .f32) (W2 : FVec Ideal S10x512 .f32)
    (b2 : FVec Ideal S10 .f32) (n : Fin 2048) (o : Fin 10) :
    head (conv2 (lap2 L) (spread (conv1 (lap0 L) (column x) Wa ba)) Wb bb) W1 b1 W2 b2 (ix2 n o) =
      Cert.Proof.Plain.headTwo (fun j => Cert.Proof.Plain.second (fun i k => L (ix3 2 i k))
          (Cert.Proof.Plain.first (fun i k => L (ix3 0 i k)) (fun i f => x (ix2 i f)) (fun c k => Wa (ix2 c k)) (fun c => ba (ix1 c)))
          (fun c e => Wb (ix2 c e)) (fun c => bb (ix1 c)) n ⟨j.val / 32, by omega⟩ ⟨j.val % 32, by omega⟩)
        (fun q j => W1 (ix2 q j)) (fun q => b1 (ix1 q)) (fun o q => W2 (ix2 o q)) (fun o => b2 (ix1 o)) o := by
  unfold head Cert.Proof.Plain.headTwo
  rw [fc2_at]
  simp only [fc1_at, flat_at, conv2_at, conv1_at, lap0_at, lap2_at, column_at]

end Cert.ReferenceIdeal.Sgcn

end
-- ==== Proof.Sgcn.Tie.lean ====
/-
  The reference's composed term is its stages one after the other.
-/
module

public import proofs.«01_k».proof.Proof.Gen.ReferenceIdeal.Run
public import proofs.«01_k».proof.Proof.Sgcn.Plain
public import proofs.«01_k».proof.Proof.Sgcn.Stages
public import Idealize.ShloMosaic.Lib.Pointwise

@[expose] public section

set_option maxRecDepth 16384

noncomputable section

namespace Cert.ReferenceIdeal.Sgcn

open Cert.ReferenceIdeal Cert.ReferenceIdeal.Gen Idealize.ShloMosaic Idealize.ShloMosaic.TcCoe

/-- The reference's composed term, by its stages. -/
theorem res_eq (m : (ℓ : Loc nD τ sig) → Buf (Elt Ideal) ℓ) (c : Dev nD) :
    Value.res_main_v67 (F := Ideal) m c =
      head (conv2 (lap2 (m ((c.tc : Thread nD τ).loc main_arg1)))
        (spread (conv1 (lap0 (m ((c.tc : Thread nD τ).loc main_arg1))) (column (m ((c.tc : Thread nD τ).loc main_arg0)))
          (m ((c.tc : Thread nD τ).loc main_arg2)) (m ((c.tc : Thread nD τ).loc main_arg3))))
        (m ((c.tc : Thread nD τ).loc main_arg4)) (m ((c.tc : Thread nD τ).loc main_arg5)))
        (m ((c.tc : Thread nD τ).loc main_arg6)) (m ((c.tc : Thread nD τ).loc main_arg7)) (m ((c.tc : Thread nD τ).loc main_arg8)) (m ((c.tc : Thread nD τ).loc main_arg9)) := by
  unfold Value.res_main_v67
  rfl

end Cert.ReferenceIdeal.Sgcn

end
-- ==== Proof.Sgcn.Finite.lean ====
/-
  What the precondition says: every entry of every argument but the last is a real number.
-/
module

public import proofs.«01_k».proof.Defs
public import proofs.«01_k».proof.Proof.Sgcn.Plain
public import Idealize.ShloMosaic.Lib.ReduceAll
public import Idealize.ShloMosaic.Lib.IdealHost
public import Idealize.ShloMosaic.Lib.Pointwise

@[expose] public section

set_option maxRecDepth 16384

noncomputable section

namespace Cert.Proof.Finite

open Idealize.ShloMosaic Idealize.ShloMosaic.TcCoe
open Cert.Pre_finite_but_last
open Cert.Proof.Plain

/-- The single-precision word of infinity is the top. -/
theorem inf32 : Ideal.ofBits .f32 0x7F800000#32 = (⊤ : EReal) := by
  simp [Ideal.ofBits, Ideal.ieee]

/-- An extended real whose absolute value compares below infinity is real. -/
theorem real_of_cmp (x : EReal) (h : FloatOps.cmpf (F := Ideal) (φ := .f32) .olt (FloatOps.absf (F := Ideal) (φ := .f32) x) (Ideal.ofBits .f32 0x7F800000#32) = 1#1) :
    IsReal x := by
  rw [inf32] at h
  induction x using EReal.rec with
  | bot => exact absurd h (by show ¬ Ideal.cmp .olt (max (⊥ : EReal) (-⊥)) ⊤ = 1#1; simp [Ideal.cmp])
  | coe r => exact ⟨r, rfl⟩
  | top => exact absurd h (by show ¬ Ideal.cmp .olt (max (⊤ : EReal) (-⊤)) ⊤ = 1#1; simp [Ideal.cmp])

/-- One argument: where the reduction of its comparisons is one, its entries are real. -/
theorem real_of_reduce {s : Shape} {axes : List (Fin s.rank)} (X : FVec Ideal s .f32) (hb : S_.BroadcastsInDim s (![] : Fin 0 → Fin s.rank))
    (hr : s.ReducesTo axes S_) (hu : 0 < S_.numel) (j : S_.Idx)
    (h : Host.reduce IntOp.andi (cmpf .olt (Host.absf X) (broadcastInDim s ![] hb (constant (F := Ideal) S_ .f32 0x7F800000#32))) (constantI S_ 1 1#1) hr hu j = 1#1)
    (i : s.Idx) : IsReal (X i) := by
  haveI : Subsingleton S_.Idx := ⟨fun a b => funext fun k => k.elim0⟩
  exact real_of_cmp (X i) (Host.reduce_andi_all _ _ hr hu j h i)

/-- The predicate's shape relations hold. -/
theorem facts : Cert.Pre_finite_but_last.Facts := by
  constructor <;> decide

/-- The predicate of the ten arguments gives that all the entries of the first nine are real. -/
theorem reals [Cert.Pre_finite_but_last.Facts] (a0 : FVec Ideal S2048x128 .f32) (a1 : FVec Ideal S3x2048x2048 .f32) (a2 : FVec Ideal S32x4 .f32) (a3 : FVec Ideal S32 .f32)
    (a4 : FVec Ideal S32x128 .f32) (a5 : FVec Ideal S32 .f32) (a6 : FVec Ideal S512x4096 .f32) (a7 : FVec Ideal S512 .f32) (a8 : FVec Ideal S10x512 .f32)
    (a9 : FVec Ideal S10 .f32) (h : Cert.Pre_finite_but_last.fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧
      (∀ i, IsReal (a6 i)) ∧ (∀ i, IsReal (a7 i)) ∧ ∀ i, IsReal (a8 i) := by
  have j : S_.Idx := fun k => k.elim0
  have e := congrFun h j
  unfold Cert.Pre_finite_but_last.fn fn_part1 fn_part2 at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_reduce a0 _ _ _ j e0, real_of_reduce a1 _ _ _ j e1, real_of_reduce a2 _ _ _ j e2, real_of_reduce a3 _ _ _ j e3, real_of_reduce a4 _ _ _ j e4,
    real_of_reduce a5 _ _ _ j e5, real_of_reduce a6 _ _ _ j e6, real_of_reduce a7 _ _ _ j e7, real_of_reduce a8 _ _ _ j e8⟩

end Cert.Proof.Finite

end
-- ==== Proof.Sgcn.Algebraic.lean ====
/-
  The kernel and the reference agree: from memories that agree at the arguments, whose entries (those of the last bias apart) are real, both end with one and the same result array.
-/
module

public import proofs.«01_k».proof.Proof.Sgcn.Result
public import proofs.«01_k».proof.Proof.Sgcn.Plainly
public import proofs.«01_k».proof.Proof.Sgcn.Tie
public import proofs.«01_k».proof.Proof.Sgcn.Finite

@[expose] public section

set_option maxRecDepth 16384

noncomputable section

namespace Cert.Proof.Algebraic

open Idealize.ShloMosaic Idealize.ShloMosaic.TcCoe Idealize.SL.Sem
open Cert.Proof.Plain

section Values

open Cert.KernelIdeal Cert.KernelIdeal.Sgcn

variable (m : (ℓ : Loc Cert.KernelIdeal.nD Cert.KernelIdeal.τ Cert.KernelIdeal.sig) → Buf (Elt Ideal) ℓ) (c : Dev Cert.KernelIdeal.nD)

/-- The reference's stages of the kernel's arguments. -/
def plainly : FVec Ideal S2048x10 .f32 :=
  Cert.ReferenceIdeal.Sgcn.head (Cert.ReferenceIdeal.Sgcn.conv2 (Cert.ReferenceIdeal.Sgcn.lap2 (given1 m c))
    (Cert.ReferenceIdeal.Sgcn.spread (Cert.ReferenceIdeal.Sgcn.conv1 (Cert.ReferenceIdeal.Sgcn.lap0 (given1 m c)) (Cert.ReferenceIdeal.Sgcn.column (given0 m c))
      (given2 m c) (given3 m c))) (given4 m c) (given5 m c)) (given6 m c) (given7 m c) (given8 m c) (given9 m c)

/-- On arguments that are real, the last bias apart, the kernel's result is the reference's stages of them. -/
theorem same_value (h : Cert.Pre_KernelIdeal_finite_but_last (hPre_finite_but_last := Finite.facts) m) :
    stacked (answer (sawSecond m) c) = plainly m c := by
  haveI := Finite.facts
  obtain ⟨r0, r1, r2, r3, r4, r5, r6, r7, r8⟩ :=
    Finite.reals (given0 m c) (given1 m c) (given2 m c) (given3 m c) (given4 m c) (given5 m c) (given6 m c) (given7 m c) (given8 m c) (given9 m c) (h c)
  funext j
  idx_vars j
  rw [result_at]
  unfold plainly
  rw [Cert.ReferenceIdeal.Sgcn.result_at]
  exact headOne_eq (fun q => second_real (fun _ _ => r1 _) (first_real (fun _ _ => r1 _) (fun _ _ => r0 _) (fun _ _ => r2 _) fun _ => r3 _) (fun _ _ => r4 _)
    (fun _ => r5 _) _ _ _) (fun _ _ => r6 _) (fun _ => r7 _) (fun _ _ => r8 _) _

end Values

/-- From memories that agree at the arguments, the reference's stages of the kernel's arguments are the reference's result. -/
theorem same_stages (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = Cert.KernelIdeal.Sgcn.given0 m c
      ∧ m' ((c.tc : Thread Cert.ReferenceIdeal.nD Cert.ReferenceIdeal.τ).loc Cert.ReferenceIdeal.main_arg1) = Cert.KernelIdeal.Sgcn.given1 m c
      ∧ m' ((c.tc : Thread Cert.ReferenceIdeal.nD Cert.ReferenceIdeal.τ).loc Cert.ReferenceIdeal.main_arg2) = Cert.KernelIdeal.Sgcn.given2 m c
      ∧ m' ((c.tc : Thread Cert.ReferenceIdeal.nD Cert.ReferenceIdeal.τ).loc Cert.ReferenceIdeal.main_arg3) = Cert.KernelIdeal.Sgcn.given3 m c
      ∧ m' ((c.tc : Thread Cert.ReferenceIdeal.nD Cert.ReferenceIdeal.τ).loc Cert.ReferenceIdeal.main_arg4) = Cert.KernelIdeal.Sgcn.given4 m c
      ∧ m' ((c.tc : Thread Cert.ReferenceIdeal.nD Cert.ReferenceIdeal.τ).loc Cert.ReferenceIdeal.main_arg5) = Cert.KernelIdeal.Sgcn.given5 m c
      ∧ m' ((c.tc : Thread Cert.ReferenceIdeal.nD Cert.ReferenceIdeal.τ).loc Cert.ReferenceIdeal.main_arg6) = Cert.KernelIdeal.Sgcn.given6 m c
      ∧ m' ((c.tc : Thread Cert.ReferenceIdeal.nD Cert.ReferenceIdeal.τ).loc Cert.ReferenceIdeal.main_arg7) = Cert.KernelIdeal.Sgcn.given7 m c
      ∧ m' ((c.tc : Thread Cert.ReferenceIdeal.nD Cert.ReferenceIdeal.τ).loc Cert.ReferenceIdeal.main_arg8) = Cert.KernelIdeal.Sgcn.given8 m c
      ∧ m' ((c.tc : Thread Cert.ReferenceIdeal.nD Cert.ReferenceIdeal.τ).loc Cert.ReferenceIdeal.main_arg9) = Cert.KernelIdeal.Sgcn.given9 m c) :
    Cert.ReferenceIdeal.Value.res_main_v67 (F := Ideal) m' c = plainly m c := by
  obtain ⟨h0, h1, h2, h3, h4, h5, h6, h7, h8, h9⟩ := h
  rw [Cert.ReferenceIdeal.Sgcn.res_eq, h0, h1, h2, h3, h4, h5, h6, h7, h8, h9]
  rfl

/-- The kernel and the reference end with the same result array. -/
theorem agree : Cert.algebraic_KernelIdeal_ReferenceIdeal_pre_finite_but_last (hKernelIdeal := Cert.KernelIdeal.Gen.facts)
    (hReferenceIdeal := Cert.ReferenceIdeal.Gen.facts) (hPre_finite_but_last := Finite.facts) := by
  intro m g m' g' hp hm
  refine ⟨fun c => plainly m c, ?_, ?_⟩
  · refine (θ_run _ _ _).mono (fun r hr c => ?_) (Cert.KernelIdeal.Sgcn.ends_value m g)
    have ha := (hr c).2
    refine ⟨(hr c).1.trans (same_value m c hp), ?_⟩
    refine ⟨ha _ ?_, ha _ ?_, ha _ ?_, ha _ ?_, ha _ ?_, ha _ ?_, ha _ ?_, ha _ ?_, ha _ ?_, ha _ ?_⟩ <;> simp [Cert.KernelIdeal.Sgcn.argRefs]
  · refine (θ_run _ _ _).mono (fun r hr c => ?_) (Cert.ReferenceIdeal.Value.run m' g')
    exact ⟨(hr c).1.trans (same_stages m m' c (hm c)), (hr c).2⟩

end Cert.Proof.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Sgcn.Frames
public import proofs.«01_k».proof.Proof.Sgcn.Algebraic

@[expose] public section

noncomputable section

namespace Cert.Proof

/-- Every claim of this certificate: the three programs run and keep their arguments, the idealization is the kernel's own text, and where the arguments, the last bias apart, are real, the idealized kernel
    and the reference end with the same result. -/
theorem claim : Cert.Claim := ⟨Cert.Kernel.Gen.facts, Cert.KernelIdeal.Gen.facts, Cert.ReferenceIdeal.Gen.facts, Finite.facts,
  Frames.wordwise, Frames.idealized, fun m g _ => Frames.idealized m g trivial, Frames.reference, fun m g _ => Frames.reference m g trivial, trivial, Algebraic.agree⟩

end Cert.Proof

end
